-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_attention [hPre_finite_attention : Cert.Pre_finite_attention.Facts] (m : (ℓ : Loc Cert.MixerIdeal.nD Cert.MixerIdeal.τ Cert.MixerIdeal.sig) → Buf (Elt Ideal) ℓ) : Prop :=
  ∀ c : Dev Cert.MixerIdeal.nD,
    (Cert.Pre_finite_attention.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7))).1 = (fun _ => 1#1)
    ∧ (Cert.Pre_finite_attention.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7))).2.1 = (fun _ => 1#1)
    ∧ (Cert.Pre_finite_attention.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7))).2.2 = (fun _ => 1#1)

def Pre_MixerReferenceIdeal (m : (ℓ : Loc Cert.MixerReferenceIdeal.nD Cert.MixerReferenceIdeal.τ Cert.MixerReferenceIdeal.sig) → Buf (Elt Ideal) ℓ) : Prop :=
  True

def Pre_MixerReferenceIdeal_finite_attention [hPre_finite_attention : Cert.Pre_finite_attention.Facts] (m : (ℓ : Loc Cert.MixerReferenceIdeal.nD Cert.MixerReferenceIdeal.τ Cert.MixerReferenceIdeal.sig) → Buf (Elt Ideal) ℓ) : Prop :=
  ∀ c : Dev Cert.MixerReferenceIdeal.nD,
    (Cert.Pre_finite_attention.fn (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg6)) (m ((c.tc : Thread Cert.MixerReferenceIdeal.nD Cert.MixerReferenceIdeal.τ).loc Cert.MixerReferenceIdeal.main_arg7))).1 = (fun _ => 1#1)
    ∧ (Cert.Pre_finite_attention.fn (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg6)) (m ((c.tc : Thread Cert.MixerReferenceIdeal.nD Cert.MixerReferenceIdeal.τ).loc Cert.MixerReferenceIdeal.main_arg7))).2.1 = (fun _ => 1#1)
    ∧ (Cert.Pre_finite_attention.fn (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg6)) (m ((c.tc : Thread Cert.MixerReferenceIdeal.nD Cert.MixerReferenceIdeal.τ).loc Cert.MixerReferenceIdeal.main_arg7))).2.2 = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ r.2.sem = fun _ => 0)

def quiescent_MixerIdeal_pre_finite_attention [hMixerIdeal : Cert.MixerIdeal.Facts] [hPre_finite_attention : Cert.Pre_finite_attention.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_attention m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7))
      ∧ r.2.sem = fun _ => 0)

def quiescent_MixerReferenceIdeal_pre_finite_attention [hMixerReferenceIdeal : Cert.MixerReferenceIdeal.Facts] [hPre_finite_attention : Cert.Pre_finite_attention.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal_finite_attention m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v5) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_Mixer_MixerIdeal : Prop :=
  IdealRules.named_const.Statement Cert.MixerIdeal.κ "mask" .f32 0xF149F2CA#32 ⊥

def algebraic_MixerIdeal_MixerReferenceIdeal_pre_finite_attention [hMixerIdeal : Cert.MixerIdeal.Facts] [hMixerReferenceIdeal : Cert.MixerReferenceIdeal.Facts] [hPre_finite_attention : Cert.Pre_finite_attention.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal_finite_attention m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)
      ∧ m' ((c.tc : Thread Cert.MixerReferenceIdeal.nD Cert.MixerReferenceIdeal.τ).loc Cert.MixerReferenceIdeal.main_arg7) = m ((c.tc : Thread Cert.MixerIdeal.nD Cert.MixerIdeal.τ).loc Cert.MixerIdeal.main_arg7)) →
    ∃ (v0 : (c : Dev Cert.MixerIdeal.nD) → Buf (Elt Ideal) ((c.tc : Thread Cert.MixerIdeal.nD Cert.MixerIdeal.τ).loc Cert.MixerIdeal.main_v40)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v40) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v124) = v0 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v8_0)) (v1 : (c : Dev Cert.GatesIdeal.nD) → Buf (Elt Ideal) ((c.tc : Thread Cert.GatesIdeal.nD Cert.GatesIdeal.τ).loc Cert.GatesIdeal.main_v8_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v8_0) = v0 c
          ∧ r.2.mem ((c.tc : Thread Cert.GatesIdeal.nD Cert.GatesIdeal.τ).loc Cert.GatesIdeal.main_v8_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v23) = v0 c
          ∧ r.2.mem ((c.tc : Thread Cert.GatesReferenceIdeal.nD Cert.GatesReferenceIdeal.τ).loc Cert.GatesReferenceIdeal.main_v24) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hMixer : Cert.Mixer.Facts) (hMixerIdeal : Cert.MixerIdeal.Facts) (hMixerReferenceIdeal : Cert.MixerReferenceIdeal.Facts) (hGates : Cert.Gates.Facts) (hGatesIdeal : Cert.GatesIdeal.Facts) (hGatesReferenceIdeal : Cert.GatesReferenceIdeal.Facts) (hPre_finite_weights : Cert.Pre_finite_weights.Facts) (hPre_finite_attention : Cert.Pre_finite_attention.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ quiescent_Norm (hNorm := hNorm)
    ∧ quiescent_NormIdeal (hNormIdeal := hNormIdeal)
    ∧ quiescent_NormReferenceIdeal (hNormReferenceIdeal := hNormReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Mixer (hMixer := hMixer)
    ∧ quiescent_MixerIdeal (hMixerIdeal := hMixerIdeal)
    ∧ quiescent_MixerIdeal_pre_finite_attention (hMixerIdeal := hMixerIdeal) (hPre_finite_attention := hPre_finite_attention)
    ∧ quiescent_MixerReferenceIdeal (hMixerReferenceIdeal := hMixerReferenceIdeal)
    ∧ quiescent_MixerReferenceIdeal_pre_finite_attention (hMixerReferenceIdeal := hMixerReferenceIdeal) (hPre_finite_attention := hPre_finite_attention)
    ∧ quiescent_Gates (hGates := hGates)
    ∧ quiescent_GatesIdeal (hGatesIdeal := hGatesIdeal)
    ∧ quiescent_GatesReferenceIdeal (hGatesReferenceIdeal := hGatesReferenceIdeal)
    ∧ preserves_Kernel_KernelIdeal
    ∧ algebraic_KernelIdeal_ReferenceIdeal_pre_finite_weights (hKernelIdeal := hKernelIdeal) (hReferenceIdeal := hReferenceIdeal) (hPre_finite_weights := hPre_finite_weights)
    ∧ preserves_Norm_NormIdeal
    ∧ algebraic_NormIdeal_NormReferenceIdeal (hNormIdeal := hNormIdeal) (hNormReferenceIdeal := hNormReferenceIdeal)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Mixer_MixerIdeal
    ∧ algebraic_MixerIdeal_MixerReferenceIdeal_pre_finite_attention (hMixerIdeal := hMixerIdeal) (hMixerReferenceIdeal := hMixerReferenceIdeal) (hPre_finite_attention := hPre_finite_attention)
    ∧ preserves_Gates_GatesIdeal
    ∧ algebraic_GatesIdeal_GatesReferenceIdeal (hGatesIdeal := hGatesIdeal) (hGatesReferenceIdeal := hGatesReferenceIdeal)
-- ==== Pre_finite_attention.lean ====
abbrev S2x8192x4096 : Shape := ⟨3, ![2, 8192, 4096]⟩
abbrev S4096 : Shape := ⟨1, ![4096]⟩
abbrev S4096x14368 : Shape := ⟨2, ![4096, 14368]⟩
abbrev S128 : Shape := ⟨1, ![128]⟩
abbrev S16x513 : Shape := ⟨2, ![16, 513]⟩
abbrev S2x8192x2048 : Shape := ⟨3, ![2, 8192, 2048]⟩
abbrev S4096x4096 : Shape := ⟨2, ![4096, 4096]⟩
abbrev S_ : Shape := ⟨0, ![]⟩

class Facts : Prop where
  bcast_S_S128 : S_.BroadcastsInDim S128 (![] : Fin 0 → Fin S128.rank)
  bcast_S_S16x513 : S_.BroadcastsInDim S16x513 (![] : Fin 0 → Fin S16x513.rank)

variable [Facts]

def fn {F : FTy → Type} [FloatOps F] (main_arg0 : FVec F S2x8192x4096 .f32) (main_arg1 : FVec F S4096 .f32) (main_arg2 : FVec F S4096x14368 .f32) (main_arg3 : FVec F S128 .f32) (main_arg4 : FVec F S128 .f32) (main_arg5 : FVec F S16x513 .f32) (main_arg6 : FVec F S2x8192x2048 .bf16) (main_arg7 : FVec F S4096x4096 .f32) : IVec S128 1 × IVec S128 1 × IVec S16x513 1 :=
  let main_v0 : FVec F S128 .f32 := Host.absf main_arg3
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg4
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : FVec F S16x513 .f32 := Host.absf main_arg5
  let main_cst_1 : FVec F S_ .f32 := constant S_ .f32 0x7F800000#32
  let main_v7 : FVec F S16x513 .f32 := broadcastInDim S16x513 ![] bcast_S_S16x513 main_cst_1
  let main_v8 : IVec S16x513 1 := cmpf .olt main_v6 main_v7
  (main_v2, main_v5, main_v8)
-- ==== Pre_finite_weights.lean ====
abbrev S112x16384x128 : Shape := ⟨3, ![112, 16384, 128]⟩
abbrev S16x513 : Shape := ⟨2, ![16, 513]⟩
abbrev S128 : Shape := ⟨1, ![128]⟩
abbrev S_ : Shape := ⟨0, ![]⟩

class Facts : Prop where
  bcast_S_S16x513 : S_.BroadcastsInDim S16x513 (![] : Fin 0 → Fin S16x513.rank)
  bcast_S_S128 : S_.BroadcastsInDim S128 (![] : Fin 0 → Fin S128.rank)

variable [Facts]

def fn {F : FTy → Type} [FloatOps F] (main_arg0 : FVec F S112x16384x128 .bf16) (main_arg1 : FVec F S16x513 .f32) (main_arg2 : FVec F S128 .f32) (main_arg3 : FVec F S128 .f32) : IVec S16x513 1 × IVec S128 1 × IVec S128 1 :=
  let main_v0 : FVec F S16x513 .f32 := Host.absf main_arg1
  let main_cst : FVec F S_ .f32 := constant S_ .f32 0x7F800000#32
  let main_v1 : FVec F S16x513 .f32 := broadcastInDim S16x513 ![] bcast_S_S16x513 main_cst
  let main_v2 : IVec S16x513 1 := cmpf .olt main_v0 main_v1
  let main_v3 : FVec F S128 .f32 := Host.absf main_arg2
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : FVec F S128 .f32 := Host.absf main_arg3
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  (main_v2, main_v5, main_v8)
-- ==== Kernel.lean ====
abbrev S112x16384x128 : Shape := ⟨3, ![112, 16384, 128]⟩
abbrev S16x513 : Shape := ⟨2, ![16, 513]⟩
abbrev S128 : Shape := ⟨1, ![128]⟩
abbrev S768 : Shape := ⟨1, ![768]⟩
abbrev S_ : Shape := ⟨0, ![]⟩
abbrev S768x1 : Shape := ⟨2, ![768, 1]⟩
abbrev S16x768 : Shape := ⟨2, ![16, 768]⟩
abbrev S1x16x1x768 : Shape := ⟨4, ![1, 16, 1, 768]⟩
abbrev S1x16x128x768 : Shape := ⟨4, ![1, 16, 128, 768]⟩
abbrev S16x98304 : Shape := ⟨2, ![16, 98304]⟩
abbrev S16x98176 : Shape := ⟨2, ![16, 98176]⟩
abbrev S16x128x767 : Shape := ⟨3, ![16, 128, 767]⟩
abbrev S16x128x640 : Shape := ⟨3, ![16, 128, 640]⟩
abbrev S128x1 : Shape := ⟨2, ![128, 1]⟩
abbrev S640 : Shape := ⟨1, ![640]⟩
abbrev S1x640 : Shape := ⟨2, ![1, 640]⟩
abbrev S128x640 : Shape := ⟨2, ![128, 640]⟩
abbrev S1x128x640 : Shape := ⟨3, ![1, 128, 640]⟩
abbrev S1x128 : Shape := ⟨2, ![1, 128]⟩
abbrev S16384x2048 : Shape := ⟨2, ![16384, 2048]⟩
abbrev S2x512x128 : Shape := ⟨3, ![2, 512, 128]⟩
abbrev S2x128x640 : Shape := ⟨3, ![2, 128, 640]⟩
abbrev S512x256 : Shape := ⟨2, ![512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩
abbrev S4x128x128 : Shape := ⟨3, ![4, 128, 128]⟩
abbrev S640x128 : Shape := ⟨2, ![640, 128]⟩
abbrev S4x128x640 : Shape := ⟨3, ![4, 128, 640]⟩
abbrev S8x128x128 : Shape := ⟨3, ![8, 128, 128]⟩
abbrev S1x640x128 : Shape := ⟨3, ![1, 640, 128]⟩
abbrev S8x640x128 : Shape := ⟨3, ![8, 640, 128]⟩
abbrev S8x128x640 : Shape := ⟨3, ![8, 128, 640]⟩
abbrev S8x128 : Shape := ⟨2, ![8, 128]⟩
abbrev S8x128x1 : Shape := ⟨3, ![8, 128, 1]⟩

abbrev nBuf : Space → Nat
  | .hbm => 80
  | .vmem => 16
  | .smem => 0
  | _ => 0

abbrev bufTy : (tb : Table) → Fin (tcTables nBuf tb) → BufTy
  | .hbm, ⟨0, _⟩ => ⟨S112x16384x128, .bf16⟩
  | .hbm, ⟨1, _⟩ => ⟨S16x513, .f32⟩
  | .hbm, ⟨2, _⟩ => ⟨S128, .f32⟩
  | .hbm, ⟨3, _⟩ => ⟨S128, .f32⟩
  | .hbm, ⟨4, _⟩ => ⟨S768, .i32⟩
  | .hbm, ⟨5, _⟩ => ⟨S768, .i1⟩
  | .hbm, ⟨6, _⟩ => ⟨S_, .i32⟩
  | .hbm, ⟨7, _⟩ => ⟨S768, .i32⟩
  | .hbm, ⟨8, _⟩ => ⟨S768, .i32⟩
  | .hbm, ⟨9, _⟩ => ⟨S768, .i32⟩
  | .hbm, ⟨10, _⟩ => ⟨S768x1, .i32⟩
  | .hbm, ⟨11, _⟩ => ⟨S16x768, .f32⟩
  | .hbm, ⟨12, _⟩ => ⟨S1x16x1x768, .f32⟩
  | .hbm, ⟨13, _⟩ => ⟨S1x16x128x768, .f32⟩
  | .hbm, ⟨14, _⟩ => ⟨S16x98304, .f32⟩
  | .hbm, ⟨15, _⟩ => ⟨S16x98176, .f32⟩
  | .hbm, ⟨16, _⟩ => ⟨S16x128x767, .f32⟩
  | .hbm, ⟨17, _⟩ => ⟨S16x128x640, .f32⟩
  | .hbm, ⟨18, _⟩ => ⟨S128, .i32⟩
  | .hbm, ⟨19, _⟩ => ⟨S128x1, .i32⟩
  | .hbm, ⟨20, _⟩ => ⟨S_, .i32⟩
  | .hbm, ⟨21, _⟩ => ⟨S_, .i32⟩
  | .hbm, ⟨22, _⟩ => ⟨S128x1, .i32⟩
  | .hbm, ⟨23, _⟩ => ⟨S128x1, .i32⟩
  | .hbm, ⟨24, _⟩ => ⟨S128x1, .i32⟩
  | .hbm, ⟨25, _⟩ => ⟨S_, .i32⟩
  | .hbm, ⟨26, _⟩ => ⟨S128x1, .i32⟩
  | .hbm, ⟨27, _⟩ => ⟨S128x1, .i1⟩
  | .hbm, ⟨28, _⟩ => ⟨S128x1, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i1⟩
  | .hbm, ⟨33, _⟩ => ⟨S128x1, .i1⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x1, .i32⟩
  | .hbm, ⟨38, _⟩ => ⟨S640, .i32⟩
  | .hbm, ⟨39, _⟩ => ⟨S1x640, .i32⟩
  | .hbm, ⟨40, _⟩ => ⟨S_, .i32⟩
  | .hbm, ⟨41, _⟩ => ⟨S_, .i32⟩
  | .hbm, ⟨42, _⟩ => ⟨S1x640, .i32⟩
  | .hbm, ⟨43, _⟩ => ⟨S1x640, .i32⟩
  | .hbm, ⟨44, _⟩ => ⟨S1x640, .i32⟩
  | .hbm, ⟨45, _⟩ => ⟨S_, .i32⟩
  | .hbm, ⟨46, _⟩ => ⟨S1x640, .i32⟩
  | .hbm, ⟨47, _⟩ => ⟨S1x640, .i1⟩
  | .hbm, ⟨48, _⟩ => ⟨S1x640, .i32⟩
  | .hbm, ⟨49, _⟩ => ⟨S1x640, .i32⟩
  | .hbm, ⟨50, _⟩ => ⟨S_, .i32⟩
  | .hbm, ⟨51, _⟩ => ⟨S1x640, .i32⟩
  | .hbm, ⟨52, _⟩ => ⟨S1x640, .i1⟩
  | .hbm, ⟨53, _⟩ => ⟨S1x640, .i1⟩
  | .hbm, ⟨54, _⟩ => ⟨S_, .i32⟩
  | .hbm, ⟨55, _⟩ => ⟨S1x640, .i32⟩
  | .hbm, ⟨56, _⟩ => ⟨S1x640, .i32⟩
  | .hbm, ⟨57, _⟩ => ⟨S1x640, .i32⟩
  | .hbm, ⟨58, _⟩ => ⟨S128x640, .i32⟩
  | .hbm, ⟨59, _⟩ => ⟨S128x640, .i32⟩
  | .hbm, ⟨60, _⟩ => ⟨S128x640, .i1⟩
  | .hbm, ⟨61, _⟩ => ⟨S_, .i32⟩
  | .hbm, ⟨62, _⟩ => ⟨S128x1, .i32⟩
  | .hbm, ⟨63, _⟩ => ⟨S128x1, .i32⟩
  | .hbm, ⟨64, _⟩ => ⟨S128x640, .i32⟩
  | .hbm, ⟨65, _⟩ => ⟨S128x640, .i32⟩
  | .hbm, ⟨66, _⟩ => ⟨S128x640, .i1⟩
  | .hbm, ⟨67, _⟩ => ⟨S128x640, .i1⟩
  | .hbm, ⟨68, _⟩ => ⟨S1x128x640, .i1⟩
  | .hbm, ⟨69, _⟩ => ⟨S_, .f32⟩
  | .hbm, ⟨70, _⟩ => ⟨S_, .f32⟩
  | .hbm, ⟨71, _⟩ => ⟨S16x128x640, .i1⟩
  | .hbm, ⟨72, _⟩ => ⟨S16x128x640, .f32⟩
  | .hbm, ⟨73, _⟩ => ⟨S16x128x640, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S1x128, .f32⟩
  | .hbm, ⟨79, _⟩ => ⟨S16384x2048, .bf16⟩
  | .local _ .vmem, ⟨0, _⟩ => ⟨S2x512x128, .bf16⟩
  | .local _ .vmem, ⟨1, _⟩ => ⟨S2x512x128, .bf16⟩
  | .local _ .vmem, ⟨2, _⟩ => ⟨S2x512x128, .bf16⟩
  | .local _ .vmem, ⟨3, _⟩ => ⟨S2x512x128, .bf16⟩
  | .local _ .vmem, ⟨4, _⟩ => ⟨S2x512x128, .bf16⟩
  | .local _ .vmem, ⟨5, _⟩ => ⟨S2x512x128, .bf16⟩
  | .local _ .vmem, ⟨6, _⟩ => ⟨S2x512x128, .bf16⟩
  | .local _ .vmem, ⟨7, _⟩ => ⟨S2x512x128, .bf16⟩
  | .local _ .vmem, ⟨8, _⟩ => ⟨S2x512x128, .bf16⟩
  | .local _ .vmem, ⟨9, _⟩ => ⟨S2x512x128, .bf16⟩
  | .local _ .vmem, ⟨10, _⟩ => ⟨S2x128x640, .f32⟩
  | .local _ .vmem, ⟨11, _⟩ => ⟨S2x128x640, .f32⟩
  | .local _ .vmem, ⟨12, _⟩ => ⟨S1x128, .f32⟩
  | .local _ .vmem, ⟨13, _⟩ => ⟨S1x128, .f32⟩
  | .local _ .vmem, ⟨14, _⟩ => ⟨S512x256, .bf16⟩
  | .local _ .vmem, ⟨15, _⟩ => ⟨S512x256, .bf16⟩
  | _, _ => ⟨S112x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c_3 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_c_4 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v27 : Ref sig .tc := ⟨.hbm, 73, rfl⟩
abbrev main_cst_5 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c8_i32_4 : BitVec 32 := 8#32
  let v11 : BitVec 32 := Scalar.divsi arg0 c8_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c8_i32_4 c0_i32_7
  let v18 : BitVec 32 := Scalar.extui v17
  let c0_i32_8 : BitVec 32 := 0#32
  let v19 : BitVec 1 := Scalar.cmpi .slt c8_i32_4 c0_i32_8
  let v20 : BitVec 32 := Scalar.extui v19
  let v21 : BitVec 32 := Scalar.subi v18 v20
  let v22 : BitVec 1 := Scalar.cmpi .ne v16 v21
  let v23 : BitVec 32 := Scalar.remsi arg0 c8_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c16_i32 : BitVec 32 := 16#32
  let v28 : BitVec 32 := Scalar.muli v27 c16_i32
  let v29 : BitVec 32 := Scalar.addi v28 arg1
  let c0_i32_11 : BitVec 32 := 0#32
  let c0_i32_12 : BitVec 32 := 0#32
  ![v10.toNat, v29.toNat, c0_i32_11.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.addi c8_i32_3 v9
  let c8_i32_4 : BitVec 32 := 8#32
  let v11 : BitVec 32 := Scalar.divsi arg0 c8_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c8_i32_4 c0_i32_7
  let v18 : BitVec 32 := Scalar.extui v17
  let c0_i32_8 : BitVec 32 := 0#32
  let v19 : BitVec 1 := Scalar.cmpi .slt c8_i32_4 c0_i32_8
  let v20 : BitVec 32 := Scalar.extui v19
  let v21 : BitVec 32 := Scalar.subi v18 v20
  let v22 : BitVec 1 := Scalar.cmpi .ne v16 v21
  let v23 : BitVec 32 := Scalar.remsi arg0 c8_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c16_i32 : BitVec 32 := 16#32
  let v28 : BitVec 32 := Scalar.muli v27 c16_i32
  let c1_i32_11 : BitVec 32 := 1#32
  let v29 : BitVec 32 := Scalar.subi arg1 c1_i32_11
  let c0_i32_12 : BitVec 32 := 0#32
  let v30 : BitVec 32 := Scalar.maxsi v29 c0_i32_12
  let v31 : BitVec 32 := Scalar.addi v28 v30
  let c0_i32_13 : BitVec 32 := 0#32
  let c0_i32_14 : BitVec 32 := 0#32
  ![v10.toNat, v31.toNat, c0_i32_13.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.addi c8_i32_3 v9
  let c8_i32_4 : BitVec 32 := 8#32
  let v11 : BitVec 32 := Scalar.divsi arg0 c8_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c8_i32_4 c0_i32_7
  let v18 : BitVec 32 := Scalar.extui v17
  let c0_i32_8 : BitVec 32 := 0#32
  let v19 : BitVec 1 := Scalar.cmpi .slt c8_i32_4 c0_i32_8
  let v20 : BitVec 32 := Scalar.extui v19
  let v21 : BitVec 32 := Scalar.subi v18 v20
  let v22 : BitVec 1 := Scalar.cmpi .ne v16 v21
  let v23 : BitVec 32 := Scalar.remsi arg0 c8_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c16_i32 : BitVec 32 := 16#32
  let v28 : BitVec 32 := Scalar.muli v27 c16_i32
  let v29 : BitVec 32 := Scalar.addi v28 arg1
  let c0_i32_11 : BitVec 32 := 0#32
  let c0_i32_12 : BitVec 32 := 0#32
  ![v10.toNat, v29.toNat, c0_i32_11.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.addi c16_i32 v9
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c16_i32_10 : BitVec 32 := 16#32
  let v28 : BitVec 32 := Scalar.muli v27 c16_i32_10
  let c1_i32_11 : BitVec 32 := 1#32
  let v29 : BitVec 32 := Scalar.subi arg1 c1_i32_11
  let c0_i32_12 : BitVec 32 := 0#32
  let v30 : BitVec 32 := Scalar.maxsi v29 c0_i32_12
  let v31 : BitVec 32 := Scalar.addi v28 v30
  let c0_i32_13 : BitVec 32 := 0#32
  let c0_i32_14 : BitVec 32 := 0#32
  ![v10.toNat, v31.toNat, c0_i32_13.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.addi c16_i32 v9
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c16_i32_10 : BitVec 32 := 16#32
  let v28 : BitVec 32 := Scalar.muli v27 c16_i32_10
  let v29 : BitVec 32 := Scalar.addi v28 arg1
  let c0_i32_11 : BitVec 32 := 0#32
  let c0_i32_12 : BitVec 32 := 0#32
  ![v10.toNat, v29.toNat, c0_i32_11.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let v18 : BitVec 32 := Scalar.addi v17 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

abbrev stage0_0 : Fin 2 → Memref sig .tc .vmem S2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S112x16384x128 : Shape := ⟨3, ![112, 16384, 128]⟩
abbrev S16x513 : Shape := ⟨2, ![16, 513]⟩
abbrev S128 : Shape := ⟨1, ![128]⟩
abbrev S16x16384x128 : Shape := ⟨3, ![16, 16384, 128]⟩
abbrev S16x2x8192x128 : Shape := ⟨4, ![16, 2, 8192, 128]⟩
abbrev S2x16x8192x128 : Shape := ⟨4, ![2, 16, 8192, 128]⟩
abbrev S_ : Shape := ⟨0, ![]⟩
abbrev S2x16x8192 : Shape := ⟨3, ![2, 16, 8192]⟩
abbrev S2x16x8192x1 : Shape := ⟨4, ![2, 16, 8192, 1]⟩
abbrev S1x1x1x128 : Shape := ⟨4, ![1, 1, 1, 128]⟩
abbrev S2x16x8704x128 : Shape := ⟨4, ![2, 16, 8704, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128x1 : Shape := ⟨2, ![128, 1]⟩
abbrev S128x576 : Shape := ⟨2, ![128, 576]⟩
abbrev S2x16x128x64x128 : Shape := ⟨5, ![2, 16, 128, 64, 128]⟩
abbrev S128x576x1 : Shape := ⟨3, ![128, 576, 1]⟩
abbrev S2x16x128x576x128 : Shape := ⟨5, ![2, 16, 128, 576, 128]⟩
abbrev S2x16x128x64x576 : Shape := ⟨5, ![2, 16, 128, 64, 576]⟩
abbrev S1x16x1x64x576 : Shape := ⟨5, ![1, 16, 1, 64, 576]⟩
abbrev S1x1x128x1x576 : Shape := ⟨5, ![1, 1, 128, 1, 576]⟩
abbrev S2x16x128x64 : Shape := ⟨4, ![2, 16, 128, 64]⟩
abbrev S2x16x128x64x1 : Shape := ⟨5, ![2, 16, 128, 64, 1]⟩
abbrev S2x8192x16x128 : Shape := ⟨4, ![2, 8192, 16, 128]⟩
abbrev S16384x2048 : Shape := ⟨2, ![16384, 2048]⟩

abbrev nBuf : Space → Nat
  | .hbm => 150
  | .vmem => 0
  | .smem => 0
  | _ => 0

abbrev hbmTy0_0 (i : Nat) : BufTy := match i % 128 with
  | 0 => ⟨S112x16384x128, .bf16⟩
  | 1 => ⟨S16x513, .f32⟩
  | 2 => ⟨S128, .f32⟩
  | 3 => ⟨S128, .f32⟩
  | 4 => ⟨S16x16384x128, .bf16⟩
  | 5 => ⟨S16x16384x128, .f32⟩
  | 6 => ⟨S16x2x8192x128, .f32⟩
  | 7 => ⟨S2x16x8192x128, .f32⟩
  | 8 => ⟨S2x16x8192x128, .f32⟩
  | 9 => ⟨S_, .f32⟩
  | 10 => ⟨S2x16x8192, .f32⟩
  | 11 => ⟨S2x16x8192x1, .f32⟩
  | 12 => ⟨S_, .f32⟩
  | 13 => ⟨S2x16x8192x1, .f32⟩
  | 14 => ⟨S2x16x8192x1, .f32⟩
  | 15 => ⟨S_, .f32⟩
  | 16 => ⟨S2x16x8192x1, .f32⟩
  | 17 => ⟨S2x16x8192x1, .f32⟩
  | 18 => ⟨S2x16x8192x1, .f32⟩
  | 19 => ⟨S2x16x8192x128, .f32⟩
  | 20 => ⟨S2x16x8192x128, .f32⟩
  | 21 => ⟨S1x1x1x128, .f32⟩
  | 22 => ⟨S2x16x8192x128, .f32⟩
  | 23 => ⟨S2x16x8192x128, .f32⟩
  | 24 => ⟨S16x16384x128, .bf16⟩
  | 25 => ⟨S16x16384x128, .f32⟩
  | 26 => ⟨S16x2x8192x128, .f32⟩
  | 27 => ⟨S2x16x8192x128, .f32⟩
  | 28 => ⟨S2x16x8192x128, .f32⟩
  | 29 => ⟨S_, .f32⟩
  | 30 => ⟨S2x16x8192, .f32⟩
  | 31 => ⟨S2x16x8192x1, .f32⟩
  | 32 => ⟨S_, .f32⟩
  | 33 => ⟨S2x16x8192x1, .f32⟩
  | 34 => ⟨S2x16x8192x1, .f32⟩
  | 35 => ⟨S_, .f32⟩
  | 36 => ⟨S2x16x8192x1, .f32⟩
  | 37 => ⟨S2x16x8192x1, .f32⟩
  | 38 => ⟨S2x16x8192x1, .f32⟩
  | 39 => ⟨S2x16x8192x128, .f32⟩
  | 40 => ⟨S2x16x8192x128, .f32⟩
  | 41 => ⟨S1x1x1x128, .f32⟩
  | 42 => ⟨S2x16x8192x128, .f32⟩
  | 43 => ⟨S2x16x8192x128, .f32⟩
  | 44 => ⟨S16x16384x128, .bf16⟩
  | 45 => ⟨S16x16384x128, .f32⟩
  | 46 => ⟨S16x2x8192x128, .f32⟩
  | 47 => ⟨S2x16x8192x128, .f32⟩
  | 48 => ⟨S_, .i32⟩
  | 49 => ⟨S_, .f32⟩
  | 50 => ⟨S2x16x8704x128, .f32⟩
  | 51 => ⟨S_, .i32⟩
  | 52 => ⟨S_, .f32⟩
  | 53 => ⟨S2x16x8704x128, .f32⟩
  | 54 => ⟨S64, .i32⟩
  | 55 => ⟨S64x1, .i32⟩
  | 56 => ⟨S576, .i32⟩
  | 57 => ⟨S_, .i32⟩
  | 58 => ⟨S64x1, .i32⟩
  | 59 => ⟨S64x1, .i32⟩
  | 60 => ⟨S1x576, .i32⟩
  | 61 => ⟨S64x576, .i32⟩
  | 62 => ⟨S64x576, .i32⟩
  | 63 => ⟨S64x576, .i32⟩
  | 64 => ⟨S_, .i32⟩
  | 65 => ⟨S_, .i32⟩
  | 66 => ⟨S_, .i32⟩
  | 67 => ⟨S64x576, .i32⟩
  | 68 => ⟨S64x576, .i32⟩
  | 69 => ⟨S_, .i32⟩
  | 70 => ⟨S64x576, .i32⟩
  | 71 => ⟨S64x576, .i32⟩
  | 72 => ⟨S_, .i32⟩
  | 73 => ⟨S64x576, .i32⟩
  | 74 => ⟨S64x576, .i32⟩
  | 75 => ⟨S_, .i32⟩
  | 76 => ⟨S64x576, .i32⟩
  | 77 => ⟨S64x576, .i1⟩
  | 78 => ⟨S_, .i32⟩
  | 79 => ⟨S64x576, .i32⟩
  | 80 => ⟨S64x576, .i32⟩
  | 81 => ⟨S64x576, .i32⟩
  | 82 => ⟨S64x576x1, .i32⟩
  | 83 => ⟨S16x64x576, .f32⟩
  | 84 => ⟨S128, .i32⟩
  | 85 => ⟨S128x1, .i32⟩
  | 86 => ⟨S_, .i32⟩
  | 87 => ⟨S128x1, .i32⟩
  | 88 => ⟨S128x1, .i32⟩
  | 89 => ⟨S1x576, .i32⟩
  | 90 => ⟨S128x576, .i32⟩
  | 91 => ⟨S128x576, .i32⟩
  | 92 => ⟨S128x576, .i32⟩
  | 93 => ⟨S2x16x128x64x128, .f32⟩
  | 94 => ⟨S_, .i32⟩
  | 95 => ⟨S128x576, .i32⟩
  | 96 => ⟨S128x576, .i1⟩
  | 97 => ⟨S_, .i32⟩
  | 98 => ⟨S128x576, .i32⟩
  | 99 => ⟨S128x576, .i32⟩
  | 100 => ⟨S128x576, .i32⟩
  | 101 => ⟨S128x576x1, .i32⟩
  | 102 => ⟨S2x16x128x576x128, .f32⟩
  | 103 => ⟨S_, .i32⟩
  | 104 => ⟨S128x576, .i32⟩
  | 105 => ⟨S128x576, .i1⟩
  | 106 => ⟨S_, .i32⟩
  | 107 => ⟨S128x576, .i32⟩
  | 108 => ⟨S128x576, .i32⟩
  | 109 => ⟨S128x576, .i32⟩
  | 110 => ⟨S128x576x1, .i32⟩
  | 111 => ⟨S2x16x128x576x128, .f32⟩
  | 112 => ⟨S2x16x128x64x576, .f32⟩
  | 113 => ⟨S_, .f32⟩
  | 114 => ⟨S2x16x128x64x576, .f32⟩
  | 115 => ⟨S2x16x128x64x576, .f32⟩
  | 116 => ⟨S1x16x1x64x576, .f32⟩
  | 117 => ⟨S2x16x128x64x576, .f32⟩
  | 118 => ⟨S2x16x128x64x576, .f32⟩
  | 119 => ⟨S_, .i32⟩
  | 120 => ⟨S128x576, .i32⟩
  | 121 => ⟨S128x576, .i32⟩
  | 122 => ⟨S_, .i32⟩
  | 123 => ⟨S128x576, .i32⟩
  | 124 => ⟨S128x576, .i1⟩
  | 125 => ⟨S1x1x128x1x576, .i1⟩
  | 126 => ⟨S_, .f32⟩
  | 127 => ⟨S_, .f32⟩
  | _ => ⟨S112x16384x128, .bf16⟩

abbrev hbmTy0_1 (i : Nat) : BufTy := match i % 128 with
  | 0 => ⟨S2x16x128x64x576, .i1⟩
  | 1 => ⟨S2x16x128x64x576, .f32⟩
  | 2 => ⟨S2x16x128x64x576, .f32⟩
  | 3 => ⟨S_, .f32⟩
  | 4 => ⟨S2x16x128x64, .f32⟩
  | 5 => ⟨S_, .f32⟩
  | 6 => ⟨S2x16x128x64, .f32⟩
  | 7 => ⟨S2x16x128x64, .f32⟩
  | 8 => ⟨S2x16x128x64x1, .f32⟩
  | 9 => ⟨S2x16x128x64x576, .f32⟩
  | 10 => ⟨S2x16x128x64x576, .f32⟩
  | 11 => ⟨S2x16x128x64x576, .f32⟩
  | 12 => ⟨S_, .f32⟩
  | 13 => ⟨S2x16x128x64, .f32⟩
  | 14 => ⟨S2x16x128x64x1, .f32⟩
  | 15 => ⟨S2x16x128x64x576, .f32⟩
  | 16 => ⟨S2x16x128x64x576, .f32⟩
  | 17 => ⟨S2x16x128x64x128, .f32⟩
  | 18 => ⟨S2x16x8192x128, .f32⟩
  | 19 => ⟨S2x8192x16x128, .f32⟩
  | 20 => ⟨S16384x2048, .f32⟩
  | 21 => ⟨S16384x2048, .bf16⟩
  | _ => ⟨S112x16384x128, .bf16⟩

abbrev hbmTy (i : Nat) : BufTy := match i / 128 with
  | 0 => hbmTy0_0 i
  | 1 => hbmTy0_1 i
  | _ => ⟨S112x16384x128, .bf16⟩

abbrev bufTy : (tb : Table) → Fin (tcTables nBuf tb) → BufTy
  | .hbm, ⟨i, _⟩ => hbmTy i
  | _, _ => ⟨S112x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_call0_v0 : Ref sig .tc := ⟨.hbm, 49, rfl⟩
abbrev main_v38 : Ref sig .tc := ⟨.hbm, 50, rfl⟩
abbrev main_c_5 : Ref sig .tc := ⟨.hbm, 51, rfl⟩
abbrev main_call1_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_c_8 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_c_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_15 : Ref sig .tc := ⟨.hbm, 103, rfl⟩
abbrev main_v75 : Ref sig .tc := ⟨.hbm, 104, rfl⟩
abbrev main_v76 : Ref sig .tc := ⟨.hbm, 105, rfl⟩
abbrev main_c_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_18 : Ref sig .tc := ⟨.hbm, 119, rfl⟩
abbrev main_v88 : Ref sig .tc := ⟨.hbm, 120, rfl⟩
abbrev main_v89 : Ref sig .tc := ⟨.hbm, 121, rfl⟩
abbrev main_c_19 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_20 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_v93 : Ref sig .tc := ⟨.hbm, 130, rfl⟩
abbrev main_cst_21 : Ref sig .tc := ⟨.hbm, 131, rfl⟩
abbrev main_v94 : Ref sig .tc := ⟨.hbm, 132, rfl⟩
abbrev main_cst_22 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_23 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩

abbrev nD : Nat := 1
abbrev τ : Topo := Topo.v7x

variable {F : FTy → Type} [FloatOps F]
-- ==== Norm.lean ====
abbrev S2x8192x4096 : Shape := ⟨3, ![2, 8192, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S2x8192x4096 : Shape := ⟨3, ![2, 8192, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x8192x4096, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x4096, .f32⟩
  | .hbm, ⟨14, _⟩ => ⟨S2x8192x4096, .f32⟩
  | .hbm, ⟨15, _⟩ => ⟨S1x1x4096, .f32⟩
  | .hbm, ⟨16, _⟩ => ⟨S2x8192x4096, .f32⟩
  | .hbm, ⟨17, _⟩ => ⟨S2x8192x4096, .f32⟩
  | .hbm, ⟨18, _⟩ => ⟨S16384x4096, .f32⟩
  | .hbm, ⟨19, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== InProj.lean ====
abbrev S16384x4096 : Shape := ⟨2, ![16384, 4096]⟩
abbrev S4096x14368 : Shape := ⟨2, ![4096, 14368]⟩
abbrev S14368x4096 : Shape := ⟨2, ![14368, 4096]⟩
abbrev S112x16384x128 : Shape := ⟨3, ![112, 16384, 128]⟩
abbrev S1024x4096 : Shape := ⟨2, ![1024, 4096]⟩
abbrev S512x4096 : Shape := ⟨2, ![512, 4096]⟩
abbrev S4x1024x128 : Shape := ⟨3, ![4, 1024, 128]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x14368, .f32⟩
  | .hbm, ⟨2, _⟩ => ⟨S14368x4096, .f32⟩
  | .hbm, ⟨3, _⟩ => ⟨S112x16384x128, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S4x1024x128, .bf16⟩
  | .local _ .vmem, ⟨5, _⟩ => ⟨S4x1024x128, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S16384x4096 : Shape := ⟨2, ![16384, 4096]⟩
abbrev S4096x14368 : Shape := ⟨2, ![4096, 14368]⟩
abbrev S16384x14368 : Shape := ⟨2, ![16384, 14368]⟩
abbrev S16384x14336 : Shape := ⟨2, ![16384, 14336]⟩
abbrev S16384x112x128 : Shape := ⟨3, ![16384, 112, 128]⟩
abbrev S112x16384x128 : Shape := ⟨3, ![112, 16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x14368, .f32⟩
  | .hbm, ⟨2, _⟩ => ⟨S16384x4096, .f32⟩
  | .hbm, ⟨3, _⟩ => ⟨S16384x14368, .f32⟩
  | .hbm, ⟨4, _⟩ => ⟨S16384x14336, .f32⟩
  | .hbm, ⟨5, _⟩ => ⟨S16384x112x128, .f32⟩
  | .hbm, ⟨6, _⟩ => ⟨S112x16384x128, .f32⟩
  | .hbm, ⟨7, _⟩ => ⟨S112x16384x128, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProj.lean ====
abbrev S16384x2048 : Shape := ⟨2, ![16384, 2048]⟩
abbrev S4096x4096 : Shape := ⟨2, ![4096, 4096]⟩
abbrev S2x8192x4096 : Shape := ⟨3, ![2, 8192, 4096]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S2x8192x4096, .f32⟩
  | .hbm, ⟨4, _⟩ => ⟨S16384x4096, .f32⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjReferenceIdeal.lean ====
abbrev S16384x2048 : Shape := ⟨2, ![16384, 2048]⟩
abbrev S4096x4096 : Shape := ⟨2, ![4096, 4096]⟩
abbrev S2x8192x4096 : Shape := ⟨3, ![2, 8192, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S2x8192x4096, .f32⟩
  | .hbm, ⟨4, _⟩ => ⟨S16384x4096, .bf16⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Mixer.lean ====
abbrev S2x8192x4096 : Shape := ⟨3, ![2, 8192, 4096]⟩
abbrev S4096 : Shape := ⟨1, ![4096]⟩
abbrev S4096x14368 : Shape := ⟨2, ![4096, 14368]⟩
abbrev S128 : Shape := ⟨1, ![128]⟩
abbrev S16x513 : Shape := ⟨2, ![16, 513]⟩
abbrev S2x8192x2048 : Shape := ⟨3, ![2, 8192, 2048]⟩
abbrev S4096x4096 : Shape := ⟨2, ![4096, 4096]⟩
abbrev S768 : Shape := ⟨1, ![768]⟩
abbrev S16384x4096 : Shape := ⟨2, ![16384, 4096]⟩
abbrev S14368x4096 : Shape := ⟨2, ![14368, 4096]⟩
abbrev S14336x4096 : Shape := ⟨2, ![14336, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S112x16384x128 : Shape := ⟨3, ![112, 16384, 128]⟩
abbrev S1024x4096 : Shape := ⟨2, ![1024, 4096]⟩
abbrev S512x4096 : Shape := ⟨2, ![512, 4096]⟩
abbrev S4x1024x128 : Shape := ⟨3, ![4, 1024, 128]⟩
abbrev S1024x512 : Shape := ⟨2, ![1024, 512]⟩
abbrev S1024x128 : Shape := ⟨2, ![1024, 128]⟩
abbrev S1x1024x128 : Shape := ⟨3, ![1, 1024, 128]⟩
abbrev S_ : Shape := ⟨0, ![]⟩
abbrev S768x1 : Shape := ⟨2, ![768, 1]⟩
abbrev S16x768 : Shape := ⟨2, ![16, 768]⟩
abbrev S1x16x1x768 : Shape := ⟨4, ![1, 16, 1, 768]⟩
abbrev S1x16x128x768 : Shape := ⟨4, ![1, 16, 128, 768]⟩
abbrev S16x98304 : Shape := ⟨2, ![16, 98304]⟩
abbrev S16x98176 : Shape := ⟨2, ![16, 98176]⟩
abbrev S16x128x767 : Shape := ⟨3, ![16, 128, 767]⟩
abbrev S16x128x640 : Shape := ⟨3, ![16, 128, 640]⟩
abbrev S128x1 : Shape := ⟨2, ![128, 1]⟩
abbrev S640 : Shape := ⟨1, ![640]⟩
abbrev S1x640 : Shape := ⟨2, ![1, 640]⟩
abbrev S128x640 : Shape := ⟨2, ![128, 640]⟩
abbrev S1x128x640 : Shape := ⟨3, ![1, 128, 640]⟩
abbrev S1x128 : Shape := ⟨2, ![1, 128]⟩
abbrev S16384x2048 : Shape := ⟨2, ![16384, 2048]⟩
abbrev S2x512x128 : Shape := ⟨3, ![2, 512, 128]⟩
abbrev S2x128x640 : Shape := ⟨3, ![2, 128, 640]⟩
abbrev S512x256 : Shape := ⟨2, ![512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S4x128x128 : Shape := ⟨3, ![4, 128, 128]⟩
abbrev S640x128 : Shape := ⟨2, ![640, 128]⟩
abbrev S4x128x640 : Shape := ⟨3, ![4, 128, 640]⟩
abbrev S8x128x128 : Shape := ⟨3, ![8, 128, 128]⟩
abbrev S1x640x128 : Shape := ⟨3, ![1, 640, 128]⟩
abbrev S8x640x128 : Shape := ⟨3, ![8, 640, 128]⟩
abbrev S8x128x640 : Shape := ⟨3, ![8, 128, 640]⟩
abbrev S8x128 : Shape := ⟨2, ![8, 128]⟩
abbrev S8x128x1 : Shape := ⟨3, ![8, 128, 1]⟩
abbrev S1024x2048 : Shape := ⟨2, ![1024, 2048]⟩
abbrev S2048x512 : Shape := ⟨2, ![2048, 512]⟩

abbrev nBuf : Space → Nat
  | .hbm => 92
  | .vmem => 39
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x14368, .f32⟩
  | .hbm, ⟨3, _⟩ => ⟨S128, .f32⟩
  | .hbm, ⟨4, _⟩ => ⟨S128, .f32⟩
  | .hbm, ⟨5, _⟩ => ⟨S16x513, .f32⟩
  | .hbm, ⟨6, _⟩ => ⟨S2x8192x2048, .bf16⟩
  | .hbm, ⟨7, _⟩ => ⟨S4096x4096, .f32⟩
  | .hbm, ⟨8, _⟩ => ⟨S768, .i32⟩
  | .hbm, ⟨9, _⟩ => ⟨S768, .i1⟩
  | .hbm, ⟨10, _⟩ => ⟨S16384x4096, .f32⟩
  | .hbm, ⟨11, _⟩ => ⟨S14368x4096, .f32⟩
  | .hbm, ⟨12, _⟩ => ⟨S14336x4096, .f32⟩
  | .hbm, ⟨13, _⟩ => ⟨S1x4096, .f32⟩
  | .hbm, ⟨14, _⟩ => ⟨S16384x4096, .bf16⟩
  | .hbm, ⟨15, _⟩ => ⟨S112x16384x128, .bf16⟩
  | .hbm, ⟨16, _⟩ => ⟨S_, .i32⟩
  | .hbm, ⟨17, _⟩ => ⟨S768, .i32⟩
  | .hbm, ⟨18, _⟩ => ⟨S768, .i32⟩
  | .hbm, ⟨19, _⟩ => ⟨S768, .i32⟩
  | .hbm, ⟨20, _⟩ => ⟨S768x1, .i32⟩
  | .hbm, ⟨21, _⟩ => ⟨S16x768, .f32⟩
  | .hbm, ⟨22, _⟩ => ⟨S1x16x1x768, .f32⟩
  | .hbm, ⟨23, _⟩ => ⟨S1x16x128x768, .f32⟩
  | .hbm, ⟨24, _⟩ => ⟨S16x98304, .f32⟩
  | .hbm, ⟨25, _⟩ => ⟨S16x98176, .f32⟩
  | .hbm, ⟨26, _⟩ => ⟨S16x128x767, .f32⟩
  | .hbm, ⟨27, _⟩ => ⟨S16x128x640, .f32⟩
  | .hbm, ⟨28, _⟩ => ⟨S128, .i32⟩
  | .hbm, ⟨29, _⟩ => ⟨S128x1, .i32⟩
  | .hbm, ⟨30, _⟩ => ⟨S_, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x1, .i32⟩
  | .hbm, ⟨35, _⟩ => ⟨S_, .i32⟩
  | .hbm, ⟨36, _⟩ => ⟨S128x1, .i32⟩
  | .hbm, ⟨37, _⟩ => ⟨S128x1, .i1⟩
  | .hbm, ⟨38, _⟩ => ⟨S128x1, .i32⟩
  | .hbm, ⟨39, _⟩ => ⟨S128x1, .i32⟩
  | .hbm, ⟨40, _⟩ => ⟨S_, .i32⟩
  | .hbm, ⟨41, _⟩ => ⟨S128x1, .i32⟩
  | .hbm, ⟨42, _⟩ => ⟨S128x1, .i1⟩
  | .hbm, ⟨43, _⟩ => ⟨S128x1, .i1⟩
  | .hbm, ⟨44, _⟩ => ⟨S_, .i32⟩
  | .hbm, ⟨45, _⟩ => ⟨S128x1, .i32⟩
  | .hbm, ⟨46, _⟩ => ⟨S128x1, .i32⟩
  | .hbm, ⟨47, _⟩ => ⟨S128x1, .i32⟩
  | .hbm, ⟨48, _⟩ => ⟨S640, .i32⟩
  | .hbm, ⟨49, _⟩ => ⟨S1x640, .i32⟩
  | .hbm, ⟨50, _⟩ => ⟨S_, .i32⟩
  | .hbm, ⟨51, _⟩ => ⟨S_, .i32⟩
  | .hbm, ⟨52, _⟩ => ⟨S1x640, .i32⟩
  | .hbm, ⟨53, _⟩ => ⟨S1x640, .i32⟩
  | .hbm, ⟨54, _⟩ => ⟨S1x640, .i32⟩
  | .hbm, ⟨55, _⟩ => ⟨S_, .i32⟩
  | .hbm, ⟨56, _⟩ => ⟨S1x640, .i32⟩
  | .hbm, ⟨57, _⟩ => ⟨S1x640, .i1⟩
  | .hbm, ⟨58, _⟩ => ⟨S1x640, .i32⟩
  | .hbm, ⟨59, _⟩ => ⟨S1x640, .i32⟩
  | .hbm, ⟨60, _⟩ => ⟨S_, .i32⟩
  | .hbm, ⟨61, _⟩ => ⟨S1x640, .i32⟩
  | .hbm, ⟨62, _⟩ => ⟨S1x640, .i1⟩
  | .hbm, ⟨63, _⟩ => ⟨S1x640, .i1⟩
  | .hbm, ⟨64, _⟩ => ⟨S_, .i32⟩
  | .hbm, ⟨65, _⟩ => ⟨S1x640, .i32⟩
  | .hbm, ⟨66, _⟩ => ⟨S1x640, .i32⟩
  | .hbm, ⟨67, _⟩ => ⟨S1x640, .i32⟩
  | .hbm, ⟨68, _⟩ => ⟨S128x640, .i32⟩
  | .hbm, ⟨69, _⟩ => ⟨S128x640, .i32⟩
  | .hbm, ⟨70, _⟩ => ⟨S128x640, .i1⟩
  | .hbm, ⟨71, _⟩ => ⟨S_, .i32⟩
  | .hbm, ⟨72, _⟩ => ⟨S128x1, .i32⟩
  | .hbm, ⟨73, _⟩ => ⟨S128x1, .i32⟩
  | .hbm, ⟨74, _⟩ => ⟨S128x640, .i32⟩
  | .hbm, ⟨75, _⟩ => ⟨S128x640, .i32⟩
  | .hbm, ⟨76, _⟩ => ⟨S128x640, .i1⟩
  | .hbm, ⟨77, _⟩ => ⟨S128x640, .i1⟩
  | .hbm, ⟨78, _⟩ => ⟨S1x128x640, .i1⟩
  | .hbm, ⟨79, _⟩ => ⟨S_, .f32⟩
  | .hbm, ⟨80, _⟩ => ⟨S_, .f32⟩
  | .hbm, ⟨81, _⟩ => ⟨S16x128x640, .i1⟩
  | .hbm, ⟨82, _⟩ => ⟨S16x128x640, .f32⟩
  | .hbm, ⟨83, _⟩ => ⟨S16x128x640, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S1x128, .f32⟩
  | .hbm, ⟨89, _⟩ => ⟨S16384x2048, .bf16⟩
  | .hbm, ⟨90, _⟩ => ⟨S16384x2048, .bf16⟩
  | .hbm, ⟨91, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S512x4096, .f32⟩
  | .local _ .vmem, ⟨8, _⟩ => ⟨S512x4096, .f32⟩
  | .local _ .vmem, ⟨9, _⟩ => ⟨S4x1024x128, .bf16⟩
  | .local _ .vmem, ⟨10, _⟩ => ⟨S4x1024x128, .bf16⟩
  | .local _ .vmem, ⟨11, _⟩ => ⟨S2x512x128, .bf16⟩
  | .local _ .vmem, ⟨12, _⟩ => ⟨S2x512x128, .bf16⟩
  | .local _ .vmem, ⟨13, _⟩ => ⟨S2x512x128, .bf16⟩
  | .local _ .vmem, ⟨14, _⟩ => ⟨S2x512x128, .bf16⟩
  | .local _ .vmem, ⟨15, _⟩ => ⟨S2x512x128, .bf16⟩
  | .local _ .vmem, ⟨16, _⟩ => ⟨S2x512x128, .bf16⟩
  | .local _ .vmem, ⟨17, _⟩ => ⟨S2x512x128, .bf16⟩
  | .local _ .vmem, ⟨18, _⟩ => ⟨S2x512x128, .bf16⟩
  | .local _ .vmem, ⟨19, _⟩ => ⟨S2x512x128, .bf16⟩
  | .local _ .vmem, ⟨20, _⟩ => ⟨S2x512x128, .bf16⟩
  | .local _ .vmem, ⟨21, _⟩ => ⟨S2x128x640, .f32⟩
  | .local _ .vmem, ⟨22, _⟩ => ⟨S2x128x640, .f32⟩
  | .local _ .vmem, ⟨23, _⟩ => ⟨S1x128, .f32⟩
  | .local _ .vmem, ⟨24, _⟩ => ⟨S1x128, .f32⟩
  | .local _ .vmem, ⟨25, _⟩ => ⟨S512x256, .bf16⟩
  | .local _ .vmem, ⟨26, _⟩ => ⟨S512x256, .bf16⟩
  | .local _ .vmem, ⟨27, _⟩ => ⟨S1024x2048, .bf16⟩
  | .local _ .vmem, ⟨28, _⟩ => ⟨S1024x2048, .bf16⟩
  | .local _ .vmem, ⟨29, _⟩ => ⟨S1024x2048, .bf16⟩
  | .local _ .vmem, ⟨30, _⟩ => ⟨S1024x2048, .bf16⟩
  | .local _ .vmem, ⟨31, _⟩ => ⟨S2048x512, .f32⟩
  | .local _ .vmem, ⟨32, _⟩ => ⟨S2048x512, .f32⟩
  | .local _ .vmem, ⟨33, _⟩ => ⟨S2048x512, .f32⟩
  | .local _ .vmem, ⟨34, _⟩ => ⟨S2048x512, .f32⟩
  | .local _ .vmem, ⟨35, _⟩ => ⟨S1024x512, .f32⟩
  | .local _ .vmem, ⟨36, _⟩ => ⟨S1024x512, .f32⟩
  | .local _ .vmem, ⟨37, _⟩ => ⟨S1024x512, .f32⟩
  | .local _ .vmem, ⟨38, _⟩ => ⟨S1024x512, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_3 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_4 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v33 : Ref sig .tc := ⟨.hbm, 83, rfl⟩
abbrev main_cst_5 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg8_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc3_stg5_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem7_0 : DmaSem sig := 24
abbrev cc2_sem8_0 : DmaSem sig := 25
abbrev cc2_sem8_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36
abbrev cc3_sem5_0 : DmaSem sig := 37
abbrev cc3_sem5_1 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 28], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 16], ![false, false]⟩

def cc2_transform_0 (i : grid2.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c8_i32_4 : BitVec 32 := 8#32
  let v11 : BitVec 32 := Scalar.divsi arg0 c8_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c8_i32_4 c0_i32_7
  let v18 : BitVec 32 := Scalar.extui v17
  let c0_i32_8 : BitVec 32 := 0#32
  let v19 : BitVec 1 := Scalar.cmpi .slt c8_i32_4 c0_i32_8
  let v20 : BitVec 32 := Scalar.extui v19
  let v21 : BitVec 32 := Scalar.subi v18 v20
  let v22 : BitVec 1 := Scalar.cmpi .ne v16 v21
  let v23 : BitVec 32 := Scalar.remsi arg0 c8_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c16_i32 : BitVec 32 := 16#32
  let v28 : BitVec 32 := Scalar.muli v27 c16_i32
  let v29 : BitVec 32 := Scalar.addi v28 arg1
  let c0_i32_11 : BitVec 32 := 0#32
  let c0_i32_12 : BitVec 32 := 0#32
  ![v10.toNat, v29.toNat, c0_i32_11.toNat]

def cc2_transform_1 (i : grid2.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.addi c8_i32_3 v9
  let c8_i32_4 : BitVec 32 := 8#32
  let v11 : BitVec 32 := Scalar.divsi arg0 c8_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c8_i32_4 c0_i32_7
  let v18 : BitVec 32 := Scalar.extui v17
  let c0_i32_8 : BitVec 32 := 0#32
  let v19 : BitVec 1 := Scalar.cmpi .slt c8_i32_4 c0_i32_8
  let v20 : BitVec 32 := Scalar.extui v19
  let v21 : BitVec 32 := Scalar.subi v18 v20
  let v22 : BitVec 1 := Scalar.cmpi .ne v16 v21
  let v23 : BitVec 32 := Scalar.remsi arg0 c8_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c16_i32 : BitVec 32 := 16#32
  let v28 : BitVec 32 := Scalar.muli v27 c16_i32
  let c1_i32_11 : BitVec 32 := 1#32
  let v29 : BitVec 32 := Scalar.subi arg1 c1_i32_11
  let c0_i32_12 : BitVec 32 := 0#32
  let v30 : BitVec 32 := Scalar.maxsi v29 c0_i32_12
  let v31 : BitVec 32 := Scalar.addi v28 v30
  let c0_i32_13 : BitVec 32 := 0#32
  let c0_i32_14 : BitVec 32 := 0#32
  ![v10.toNat, v31.toNat, c0_i32_13.toNat]

def cc2_transform_2 (i : grid2.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.addi c8_i32_3 v9
  let c8_i32_4 : BitVec 32 := 8#32
  let v11 : BitVec 32 := Scalar.divsi arg0 c8_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c8_i32_4 c0_i32_7
  let v18 : BitVec 32 := Scalar.extui v17
  let c0_i32_8 : BitVec 32 := 0#32
  let v19 : BitVec 1 := Scalar.cmpi .slt c8_i32_4 c0_i32_8
  let v20 : BitVec 32 := Scalar.extui v19
  let v21 : BitVec 32 := Scalar.subi v18 v20
  let v22 : BitVec 1 := Scalar.cmpi .ne v16 v21
  let v23 : BitVec 32 := Scalar.remsi arg0 c8_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c16_i32 : BitVec 32 := 16#32
  let v28 : BitVec 32 := Scalar.muli v27 c16_i32
  let v29 : BitVec 32 := Scalar.addi v28 arg1
  let c0_i32_11 : BitVec 32 := 0#32
  let c0_i32_12 : BitVec 32 := 0#32
  ![v10.toNat, v29.toNat, c0_i32_11.toNat]

def cc2_transform_3 (i : grid2.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.addi c16_i32 v9
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c16_i32_10 : BitVec 32 := 16#32
  let v28 : BitVec 32 := Scalar.muli v27 c16_i32_10
  let c1_i32_11 : BitVec 32 := 1#32
  let v29 : BitVec 32 := Scalar.subi arg1 c1_i32_11
  let c0_i32_12 : BitVec 32 := 0#32
  let v30 : BitVec 32 := Scalar.maxsi v29 c0_i32_12
  let v31 : BitVec 32 := Scalar.addi v28 v30
  let c0_i32_13 : BitVec 32 := 0#32
  let c0_i32_14 : BitVec 32 := 0#32
  ![v10.toNat, v31.toNat, c0_i32_13.toNat]

def cc2_transform_4 (i : grid2.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.addi c16_i32 v9
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c16_i32_10 : BitVec 32 := 16#32
  let v28 : BitVec 32 := Scalar.muli v27 c16_i32_10
  let v29 : BitVec 32 := Scalar.addi v28 arg1
  let c0_i32_11 : BitVec 32 := 0#32
  let c0_i32_12 : BitVec 32 := 0#32
  ![v10.toNat, v29.toNat, c0_i32_11.toNat]

def cc2_transform_5 (i : grid2.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let v18 : BitVec 32 := Scalar.addi v17 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

abbrev stage2_0 : Fin 2 → Memref sig .tc .vmem S2x512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2x512x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2x512x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2x512x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2x512x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S2x128x640 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S512x256 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨2, ![16, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2048x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== MixerIdeal.lean ====
variable {F : FTy → Type} [FloatOps F] [Named F]
def κ : String → Option EReal := fun
  | "mask" => some ⊥
  | _ => none
-- ==== MixerReferenceIdeal.lean ====
abbrev S2x8192x4096 : Shape := ⟨3, ![2, 8192, 4096]⟩
abbrev S4096 : Shape := ⟨1, ![4096]⟩
abbrev S4096x14368 : Shape := ⟨2, ![4096, 14368]⟩
abbrev S128 : Shape := ⟨1, ![128]⟩
abbrev S16x513 : Shape := ⟨2, ![16, 513]⟩
abbrev S2x8192x2048 : Shape := ⟨3, ![2, 8192, 2048]⟩
abbrev S4096x4096 : Shape := ⟨2, ![4096, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x14368 : Shape := ⟨3, ![2, 8192, 14368]⟩
abbrev S2x8192x16x128 : Shape := ⟨4, ![2, 8192, 16, 128]⟩
abbrev S2x16x8192x128 : Shape := ⟨4, ![2, 16, 8192, 128]⟩
abbrev S2x16x8192 : Shape := ⟨3, ![2, 16, 8192]⟩
abbrev S2x16x8192x1 : Shape := ⟨4, ![2, 16, 8192, 1]⟩
abbrev S1x1x1x128 : Shape := ⟨4, ![1, 1, 1, 128]⟩
abbrev S2x16x8704x128 : Shape := ⟨4, ![2, 16, 8704, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128x1 : Shape := ⟨2, ![128, 1]⟩
abbrev S128x576 : Shape := ⟨2, ![128, 576]⟩
abbrev S2x16x128x64x128 : Shape := ⟨5, ![2, 16, 128, 64, 128]⟩
abbrev S128x576x1 : Shape := ⟨3, ![128, 576, 1]⟩
abbrev S2x16x128x576x128 : Shape := ⟨5, ![2, 16, 128, 576, 128]⟩
abbrev S2x16x128x64x576 : Shape := ⟨5, ![2, 16, 128, 64, 576]⟩
abbrev S1x16x1x64x576 : Shape := ⟨5, ![1, 16, 1, 64, 576]⟩
abbrev S1x1x128x1x576 : Shape := ⟨5, ![1, 1, 128, 1, 576]⟩
abbrev S2x16x128x64 : Shape := ⟨4, ![2, 16, 128, 64]⟩
abbrev S2x16x128x64x1 : Shape := ⟨5, ![2, 16, 128, 64, 1]⟩
abbrev S16384x4096 : Shape := ⟨2, ![16384, 4096]⟩

abbrev nBuf : Space → Nat
  | .hbm => 172
  | .vmem => 0
  | .smem => 0
  | _ => 0

abbrev hbmTy0_0 (i : Nat) : BufTy := match i % 128 with
  | 0 => ⟨S2x8192x4096, .f32⟩
  | 1 => ⟨S4096, .f32⟩
  | 2 => ⟨S4096x14368, .f32⟩
  | 3 => ⟨S128, .f32⟩
  | 4 => ⟨S128, .f32⟩
  | 5 => ⟨S16x513, .f32⟩
  | 6 => ⟨S2x8192x2048, .bf16⟩
  | 7 => ⟨S4096x4096, .f32⟩
  | 8 => ⟨S2x8192x4096, .f32⟩
  | 9 => ⟨S_, .f32⟩
  | 10 => ⟨S2x8192, .f32⟩
  | 11 => ⟨S2x8192x1, .f32⟩
  | 12 => ⟨S_, .f32⟩
  | 13 => ⟨S2x8192x1, .f32⟩
  | 14 => ⟨S2x8192x1, .f32⟩
  | 15 => ⟨S_, .f32⟩
  | 16 => ⟨S2x8192x1, .f32⟩
  | 17 => ⟨S2x8192x1, .f32⟩
  | 18 => ⟨S2x8192x1, .f32⟩
  | 19 => ⟨S2x8192x4096, .f32⟩
  | 20 => ⟨S2x8192x4096, .f32⟩
  | 21 => ⟨S1x1x4096, .f32⟩
  | 22 => ⟨S2x8192x4096, .f32⟩
  | 23 => ⟨S2x8192x4096, .f32⟩
  | 24 => ⟨S2x8192x14368, .f32⟩
  | 25 => ⟨S2x8192x2048, .f32⟩
  | 26 => ⟨S2x8192x16x128, .f32⟩
  | 27 => ⟨S2x16x8192x128, .f32⟩
  | 28 => ⟨S2x16x8192x128, .f32⟩
  | 29 => ⟨S_, .f32⟩
  | 30 => ⟨S2x16x8192, .f32⟩
  | 31 => ⟨S2x16x8192x1, .f32⟩
  | 32 => ⟨S_, .f32⟩
  | 33 => ⟨S2x16x8192x1, .f32⟩
  | 34 => ⟨S2x16x8192x1, .f32⟩
  | 35 => ⟨S_, .f32⟩
  | 36 => ⟨S2x16x8192x1, .f32⟩
  | 37 => ⟨S2x16x8192x1, .f32⟩
  | 38 => ⟨S2x16x8192x1, .f32⟩
  | 39 => ⟨S2x16x8192x128, .f32⟩
  | 40 => ⟨S2x16x8192x128, .f32⟩
  | 41 => ⟨S1x1x1x128, .f32⟩
  | 42 => ⟨S2x16x8192x128, .f32⟩
  | 43 => ⟨S2x16x8192x128, .f32⟩
  | 44 => ⟨S2x8192x2048, .f32⟩
  | 45 => ⟨S2x8192x16x128, .f32⟩
  | 46 => ⟨S2x16x8192x128, .f32⟩
  | 47 => ⟨S2x16x8192x128, .f32⟩
  | 48 => ⟨S_, .f32⟩
  | 49 => ⟨S2x16x8192, .f32⟩
  | 50 => ⟨S2x16x8192x1, .f32⟩
  | 51 => ⟨S_, .f32⟩
  | 52 => ⟨S2x16x8192x1, .f32⟩
  | 53 => ⟨S2x16x8192x1, .f32⟩
  | 54 => ⟨S_, .f32⟩
  | 55 => ⟨S2x16x8192x1, .f32⟩
  | 56 => ⟨S2x16x8192x1, .f32⟩
  | 57 => ⟨S2x16x8192x1, .f32⟩
  | 58 => ⟨S2x16x8192x128, .f32⟩
  | 59 => ⟨S2x16x8192x128, .f32⟩
  | 60 => ⟨S1x1x1x128, .f32⟩
  | 61 => ⟨S2x16x8192x128, .f32⟩
  | 62 => ⟨S2x16x8192x128, .f32⟩
  | 63 => ⟨S2x8192x2048, .f32⟩
  | 64 => ⟨S2x8192x16x128, .f32⟩
  | 65 => ⟨S2x16x8192x128, .f32⟩
  | 66 => ⟨S_, .i32⟩
  | 67 => ⟨S_, .f32⟩
  | 68 => ⟨S2x16x8704x128, .f32⟩
  | 69 => ⟨S_, .i32⟩
  | 70 => ⟨S_, .f32⟩
  | 71 => ⟨S2x16x8704x128, .f32⟩
  | 72 => ⟨S64, .i32⟩
  | 73 => ⟨S64x1, .i32⟩
  | 74 => ⟨S576, .i32⟩
  | 75 => ⟨S_, .i32⟩
  | 76 => ⟨S64x1, .i32⟩
  | 77 => ⟨S64x1, .i32⟩
  | 78 => ⟨S1x576, .i32⟩
  | 79 => ⟨S64x576, .i32⟩
  | 80 => ⟨S64x576, .i32⟩
  | 81 => ⟨S64x576, .i32⟩
  | 82 => ⟨S_, .i32⟩
  | 83 => ⟨S_, .i32⟩
  | 84 => ⟨S_, .i32⟩
  | 85 => ⟨S64x576, .i32⟩
  | 86 => ⟨S64x576, .i32⟩
  | 87 => ⟨S_, .i32⟩
  | 88 => ⟨S64x576, .i32⟩
  | 89 => ⟨S64x576, .i32⟩
  | 90 => ⟨S_, .i32⟩
  | 91 => ⟨S64x576, .i32⟩
  | 92 => ⟨S64x576, .i32⟩
  | 93 => ⟨S_, .i32⟩
  | 94 => ⟨S64x576, .i32⟩
  | 95 => ⟨S64x576, .i1⟩
  | 96 => ⟨S_, .i32⟩
  | 97 => ⟨S64x576, .i32⟩
  | 98 => ⟨S64x576, .i32⟩
  | 99 => ⟨S64x576, .i32⟩
  | 100 => ⟨S64x576x1, .i32⟩
  | 101 => ⟨S16x64x576, .f32⟩
  | 102 => ⟨S128, .i32⟩
  | 103 => ⟨S128x1, .i32⟩
  | 104 => ⟨S_, .i32⟩
  | 105 => ⟨S128x1, .i32⟩
  | 106 => ⟨S128x1, .i32⟩
  | 107 => ⟨S1x576, .i32⟩
  | 108 => ⟨S128x576, .i32⟩
  | 109 => ⟨S128x576, .i32⟩
  | 110 => ⟨S128x576, .i32⟩
  | 111 => ⟨S2x16x128x64x128, .f32⟩
  | 112 => ⟨S_, .i32⟩
  | 113 => ⟨S128x576, .i32⟩
  | 114 => ⟨S128x576, .i1⟩
  | 115 => ⟨S_, .i32⟩
  | 116 => ⟨S128x576, .i32⟩
  | 117 => ⟨S128x576, .i32⟩
  | 118 => ⟨S128x576, .i32⟩
  | 119 => ⟨S128x576x1, .i32⟩
  | 120 => ⟨S2x16x128x576x128, .f32⟩
  | 121 => ⟨S_, .i32⟩
  | 122 => ⟨S128x576, .i32⟩
  | 123 => ⟨S128x576, .i1⟩
  | 124 => ⟨S_, .i32⟩
  | 125 => ⟨S128x576, .i32⟩
  | 126 => ⟨S128x576, .i32⟩
  | 127 => ⟨S128x576, .i32⟩
  | _ => ⟨S2x8192x4096, .f32⟩

abbrev hbmTy0_1 (i : Nat) : BufTy := match i % 128 with
  | 0 => ⟨S128x576x1, .i32⟩
  | 1 => ⟨S2x16x128x576x128, .f32⟩
  | 2 => ⟨S2x16x128x64x576, .f32⟩
  | 3 => ⟨S_, .f32⟩
  | 4 => ⟨S2x16x128x64x576, .f32⟩
  | 5 => ⟨S2x16x128x64x576, .f32⟩
  | 6 => ⟨S1x16x1x64x576, .f32⟩
  | 7 => ⟨S2x16x128x64x576, .f32⟩
  | 8 => ⟨S2x16x128x64x576, .f32⟩
  | 9 => ⟨S_, .i32⟩
  | 10 => ⟨S128x576, .i32⟩
  | 11 => ⟨S128x576, .i32⟩
  | 12 => ⟨S_, .i32⟩
  | 13 => ⟨S128x576, .i32⟩
  | 14 => ⟨S128x576, .i1⟩
  | 15 => ⟨S1x1x128x1x576, .i1⟩
  | 16 => ⟨S_, .f32⟩
  | 17 => ⟨S_, .f32⟩
  | 18 => ⟨S2x16x128x64x576, .i1⟩
  | 19 => ⟨S2x16x128x64x576, .f32⟩
  | 20 => ⟨S2x16x128x64x576, .f32⟩
  | 21 => ⟨S_, .f32⟩
  | 22 => ⟨S2x16x128x64, .f32⟩
  | 23 => ⟨S_, .f32⟩
  | 24 => ⟨S2x16x128x64, .f32⟩
  | 25 => ⟨S2x16x128x64, .f32⟩
  | 26 => ⟨S2x16x128x64x1, .f32⟩
  | 27 => ⟨S2x16x128x64x576, .f32⟩
  | 28 => ⟨S2x16x128x64x576, .f32⟩
  | 29 => ⟨S2x16x128x64x576, .f32⟩
  | 30 => ⟨S_, .f32⟩
  | 31 => ⟨S2x16x128x64, .f32⟩
  | 32 => ⟨S2x16x128x64x1, .f32⟩
  | 33 => ⟨S2x16x128x64x576, .f32⟩
  | 34 => ⟨S2x16x128x64x576, .f32⟩
  | 35 => ⟨S2x16x128x64x128, .f32⟩
  | 36 => ⟨S2x16x8192x128, .f32⟩
  | 37 => ⟨S2x8192x16x128, .f32⟩
  | 38 => ⟨S2x8192x2048, .f32⟩
  | 39 => ⟨S2x8192x2048, .f32⟩
  | 40 => ⟨S2x8192x4096, .f32⟩
  | 41 => ⟨S2x8192x4096, .f32⟩
  | 42 => ⟨S2x8192x4096, .f32⟩
  | 43 => ⟨S16384x4096, .f32⟩
  | _ => ⟨S2x8192x4096, .f32⟩

abbrev hbmTy (i : Nat) : BufTy := match i / 128 with
  | 0 => hbmTy0_0 i
  | 1 => hbmTy0_1 i
  | _ => ⟨S2x8192x4096, .f32⟩

abbrev bufTy : (tb : Table) → Fin (tcTables nBuf tb) → BufTy
  | .hbm, ⟨i, _⟩ => hbmTy i
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c : Ref sig .tc := ⟨.hbm, 66, rfl⟩
abbrev main_call0_v0 : Ref sig .tc := ⟨.hbm, 67, rfl⟩
abbrev main_v49 : Ref sig .tc := ⟨.hbm, 68, rfl⟩
abbrev main_c_8 : Ref sig .tc := ⟨.hbm, 69, rfl⟩
abbrev main_call1_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_c_11 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_16 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_18 : Ref sig .tc := ⟨.hbm, 121, rfl⟩
abbrev main_v86 : Ref sig .tc := ⟨.hbm, 122, rfl⟩
abbrev main_v87 : Ref sig .tc := ⟨.hbm, 123, rfl⟩
abbrev main_c_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_20 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_21 : Ref sig .tc := ⟨.hbm, 137, rfl⟩
abbrev main_v99 : Ref sig .tc := ⟨.hbm, 138, rfl⟩
abbrev main_v100 : Ref sig .tc := ⟨.hbm, 139, rfl⟩
abbrev main_c_22 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_23 : Ref sig .tc := ⟨.hbm, 144, rfl⟩
abbrev main_call3_v0 : Ref sig .tc := ⟨.hbm, 145, rfl⟩
abbrev main_call3_v1 : Ref sig .tc := ⟨.hbm, 146, rfl⟩
abbrev main_call3_v2 : Ref sig .tc := ⟨.hbm, 147, rfl⟩
abbrev main_v104 : Ref sig .tc := ⟨.hbm, 148, rfl⟩
abbrev main_cst_24 : Ref sig .tc := ⟨.hbm, 149, rfl⟩
abbrev main_v105 : Ref sig .tc := ⟨.hbm, 150, rfl⟩
abbrev main_cst_25 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_26 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩

abbrev nD : Nat := 1
abbrev τ : Topo := Topo.v7x

variable {F : FTy → Type} [FloatOps F]
-- ==== Gates.lean ====
abbrev S16384x4096 : Shape := ⟨2, ![16384, 4096]⟩
abbrev S4096x14368 : Shape := ⟨2, ![4096, 14368]⟩
abbrev S16 : Shape := ⟨1, ![16]⟩
abbrev S14368x4096 : Shape := ⟨2, ![14368, 4096]⟩
abbrev S32x4096 : Shape := ⟨2, ![32, 4096]⟩
abbrev S_ : Shape := ⟨0, ![]⟩
abbrev S128x4096 : Shape := ⟨2, ![128, 4096]⟩
abbrev S128 : Shape := ⟨1, ![128]⟩
abbrev S1x128 : Shape := ⟨2, ![1, 128]⟩
abbrev S16384x128 : Shape := ⟨2, ![16384, 128]⟩
abbrev S16x16384 : Shape := ⟨2, ![16, 16384]⟩
abbrev S1024x4096 : Shape := ⟨2, ![1024, 4096]⟩
abbrev S1024x128 : Shape := ⟨2, ![1024, 128]⟩
abbrev S16x1024 : Shape := ⟨2, ![16, 1024]⟩
abbrev S128x1024 : Shape := ⟨2, ![128, 1024]⟩

abbrev nBuf : Space → Nat
  | .hbm => 20
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S4096x14368, .f32⟩
  | .hbm, ⟨2, _⟩ => ⟨S16, .f32⟩
  | .hbm, ⟨3, _⟩ => ⟨S16, .f32⟩
  | .hbm, ⟨4, _⟩ => ⟨S14368x4096, .f32⟩
  | .hbm, ⟨5, _⟩ => ⟨S32x4096, .f32⟩
  | .hbm, ⟨6, _⟩ => ⟨S_, .i32⟩
  | .hbm, ⟨7, _⟩ => ⟨S_, .f32⟩
  | .hbm, ⟨8, _⟩ => ⟨S128x4096, .f32⟩
  | .hbm, ⟨9, _⟩ => ⟨S16, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S16384x128, .f32⟩
  | .hbm, ⟨19, _⟩ => ⟨S16x16384, .f32⟩
  | .local _ .vmem, ⟨0, _⟩ => ⟨S1024x4096, .bf16⟩
  | .local _ .vmem, ⟨1, _⟩ => ⟨S1024x4096, .bf16⟩
  | .local _ .vmem, ⟨2, _⟩ => ⟨S128x4096, .f32⟩
  | .local _ .vmem, ⟨3, _⟩ => ⟨S1x128, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S16x1024, .f32⟩
  | .local _ .vmem, ⟨8, _⟩ => ⟨S16x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatesReferenceIdeal.lean ====
abbrev S16384x4096 : Shape := ⟨2, ![16384, 4096]⟩
abbrev S4096x14368 : Shape := ⟨2, ![4096, 14368]⟩
abbrev S16 : Shape := ⟨1, ![16]⟩
abbrev S16384x14368 : Shape := ⟨2, ![16384, 14368]⟩
abbrev S16384x16 : Shape := ⟨2, ![16384, 16]⟩
abbrev S_ : Shape := ⟨0, ![]⟩
abbrev S1x16 : Shape := ⟨2, ![1, 16]⟩
abbrev S256x64x16 : Shape := ⟨3, ![256, 64, 16]⟩
abbrev S16384x96 : Shape := ⟨2, ![16384, 96]⟩
abbrev S16384x128 : Shape := ⟨2, ![16384, 128]⟩
abbrev S16x16384 : Shape := ⟨2, ![16, 16384]⟩

abbrev nBuf : Space → Nat
  | .hbm => 47
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x14368, .f32⟩
  | .hbm, ⟨2, _⟩ => ⟨S16, .f32⟩
  | .hbm, ⟨3, _⟩ => ⟨S16, .f32⟩
  | .hbm, ⟨4, _⟩ => ⟨S16384x4096, .f32⟩
  | .hbm, ⟨5, _⟩ => ⟨S16384x14368, .f32⟩
  | .hbm, ⟨6, _⟩ => ⟨S16384x16, .f32⟩
  | .hbm, ⟨7, _⟩ => ⟨S16384x16, .f32⟩
  | .hbm, ⟨8, _⟩ => ⟨S16384x16, .f32⟩
  | .hbm, ⟨9, _⟩ => ⟨S_, .f32⟩
  | .hbm, ⟨10, _⟩ => ⟨S16384x16, .f32⟩
  | .hbm, ⟨11, _⟩ => ⟨S16384x16, .f32⟩
  | .hbm, ⟨12, _⟩ => ⟨S_, .f32⟩
  | .hbm, ⟨13, _⟩ => ⟨S16384x16, .f32⟩
  | .hbm, ⟨14, _⟩ => ⟨S16384x16, .f32⟩
  | .hbm, ⟨15, _⟩ => ⟨S16, .f32⟩
  | .hbm, ⟨16, _⟩ => ⟨S16, .f32⟩
  | .hbm, ⟨17, _⟩ => ⟨S16384x16, .f32⟩
  | .hbm, ⟨18, _⟩ => ⟨S1x16, .f32⟩
  | .hbm, ⟨19, _⟩ => ⟨S16384x16, .f32⟩
  | .hbm, ⟨20, _⟩ => ⟨S16384x16, .f32⟩
  | .hbm, ⟨21, _⟩ => ⟨S_, .f32⟩
  | .hbm, ⟨22, _⟩ => ⟨S16384x16, .f32⟩
  | .hbm, ⟨23, _⟩ => ⟨S16384x16, .f32⟩
  | .hbm, ⟨24, _⟩ => ⟨S16384x16, .f32⟩
  | .hbm, ⟨25, _⟩ => ⟨S16384x16, .f32⟩
  | .hbm, ⟨26, _⟩ => ⟨S16384x16, .i1⟩
  | .hbm, ⟨27, _⟩ => ⟨S16384x16, .f32⟩
  | .hbm, ⟨28, _⟩ => ⟨S16384x16, .f32⟩
  | .hbm, ⟨29, _⟩ => ⟨S16384x16, .f32⟩
  | .hbm, ⟨30, _⟩ => ⟨S16384x16, .f32⟩
  | .hbm, ⟨31, _⟩ => ⟨S16384x16, .f32⟩
  | .hbm, ⟨32, _⟩ => ⟨S16384x16, .f32⟩
  | .hbm, ⟨33, _⟩ => ⟨S16384x16, .f32⟩
  | .hbm, ⟨34, _⟩ => ⟨S16384x16, .f32⟩
  | .hbm, ⟨35, _⟩ => ⟨S1x16, .f32⟩
  | .hbm, ⟨36, _⟩ => ⟨S16384x16, .f32⟩
  | .hbm, ⟨37, _⟩ => ⟨S16384x16, .f32⟩
  | .hbm, ⟨38, _⟩ => ⟨S256x64x16, .f32⟩
  | .hbm, ⟨39, _⟩ => ⟨S_, .f32⟩
  | .hbm, ⟨40, _⟩ => ⟨S_, .f32⟩
  | .hbm, ⟨41, _⟩ => ⟨S256x64x16, .f32⟩
  | .hbm, ⟨42, _⟩ => ⟨S16384x16, .f32⟩
  | .hbm, ⟨43, _⟩ => ⟨S_, .f32⟩
  | .hbm, ⟨44, _⟩ => ⟨S16384x96, .f32⟩
  | .hbm, ⟨45, _⟩ => ⟨S16384x128, .f32⟩
  | .hbm, ⟨46, _⟩ => ⟨S16x16384, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_call0_cst : Ref sig .tc := ⟨.hbm, 39, rfl⟩
abbrev main_call1_call0_v0 : Ref sig .tc := ⟨.hbm, 40, rfl⟩
abbrev main_v20 : Ref sig .tc := ⟨.hbm, 41, rfl⟩
abbrev main_v21 : Ref sig .tc := ⟨.hbm, 42, rfl⟩
abbrev main_cst_1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]
-- ==== Proof.Soft.lean ====
/- The mathematics of one row of banded attention over the extended reals: a softmax over a window that is masked outside
   the band is the softmax over the band, normalising before or after the weighted sum is the same, and the row norm is real. -/
module

public import Idealize.ShloMosaic.PureOps.Ideal
public import Idealize.ShloMosaic.Lib.IdealHost

@[expose] public section

noncomputable section

namespace Cert.Band

open Idealize.ShloMosaic
open scoped BigOperators

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem isReal_zero : IsReal 0 := ⟨0, EReal.coe_zero.symm⟩

theorem isReal_sum {n : ℕ} (f : Fin n → EReal) (hf : ∀ k, IsReal (f k)) : IsReal (∑ k, f k) :=
  Finset.sum_induction f IsReal (fun _ _ => IsReal.add) isReal_zero fun k _ => hf k

theorem isReal_of_abs_lt_top {x : EReal} (h : max x (-x) < ⊤) : IsReal x := by
  induction x with
  | bot => simp at h
  | top => simp at h
  | coe r => exact ⟨r, rfl⟩

theorem zero_le_mul_self (x : EReal) : 0 ≤ x * x := by
  induction x with
  | bot => simp
  | top => simp
  | coe r => rw [← EReal.coe_mul]; exact EReal.coe_nonneg.mpr (mul_self_nonneg r)

/-- A sum times a factor that is a nonnegative real. -/
theorem sum_mul_real {n : ℕ} (f : Fin n → EReal) {c : EReal} (h0 : 0 ≤ c) (ht : c ≠ ⊤) : (∑ k, f k) * c = ∑ k, f k * c := by
  induction n with
  | zero => simp
  | succ n ih =>
    rw [Fin.sum_univ_succ, Fin.sum_univ_succ, EReal.right_distrib_of_nonneg_of_ne_top h0 ht, ih]

/-! ### The constants -/

theorem ofBits_128 : Ideal.ofBits .f32 0x43000000#32 = ((128 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

/-- The small number added to the mean square. -/
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- The scale of the scores. -/
theorem ofBits_scale : ∃ e : ℝ, 0 < e ∧ Ideal.ofBits .f32 0x3DB504F3#32 = (e : EReal) := by
  refine ⟨_, ?_, by simp [Ideal.ofBits, Ideal.ieee, -EReal.coe_mul]; rfl⟩
  positivity

/-! ### The row norm -/

/-- The reciprocal root mean square of a row. -/
def invRms (x : Fin 128 → EReal) : EReal :=
  Ideal.rsqrt (Ideal.div (∑ k, x k * x k) (Ideal.ofBits .f32 0x43000000#32) + Ideal.ofBits .f32 0x358637BD#32)

/-- A row, normed and weighted. -/
def normRow (x w : Fin 128 → EReal) (d : Fin 128) : EReal := x d * invRms x * w d

theorem div_128 (x : EReal) : Ideal.div x (Ideal.ofBits .f32 0x43000000#32) = x * ((1 / 128 : ℝ) : EReal) := by
  rw [ofBits_128, Ideal.div_coe (by norm_num)]

/-- A row's entry times the reciprocal root mean square of the row is a real number, whatever the row holds. -/
theorem norm_real (x : Fin 128 → EReal) (d : Fin 128) : IsReal (x d * invRms x) := by
  obtain ⟨e, he, hE⟩ := ofBits_eps
  unfold invRms
  rw [div_128, hE]
  by_cases h : ∀ k, IsReal (x k)
  · choose g hg using h
    have hs : (∑ k, x k * x k) = ((∑ k, g k * g k : ℝ) : EReal) := by
      simp only [hg, ← EReal.coe_mul]
      exact (map_sum (⟨⟨((↑) : ℝ → EReal), rfl⟩, EReal.coe_add⟩ : ℝ →+ EReal) (fun k => g k * g k) Finset.univ).symm
    have hp : 0 ≤ ∑ k, g k * g k := Finset.sum_nonneg fun k _ => mul_self_nonneg _
    rw [hs, ← EReal.coe_mul, ← EReal.coe_add, Ideal.rsqrt_coe, if_neg (by nlinarith), if_neg (by nlinarith), hg d]
    exact IsReal.mul ⟨_, rfl⟩ ⟨_, rfl⟩
  · push Not at h
    obtain ⟨k, hk⟩ := h
    have ht : x k * x k = ⊤ := by
      generalize x k = y at hk ⊢
      induction y with
      | bot => simp
      | top => simp
      | coe r => exact absurd ⟨r, rfl⟩ hk
    have hs : (∑ k, x k * x k) = ⊤ :=
      top_le_iff.mp (ht ▸ Finset.single_le_sum (f := fun k => x k * x k) (fun i _ => zero_le_mul_self (x i)) (Finset.mem_univ k))
    rw [hs, EReal.top_mul_coe_of_pos (by norm_num), EReal.top_add_coe, Ideal.rsqrt_top, mul_zero]
    exact isReal_zero

/-! ### The softmax of a row -/

/-- The sum of the shifted exponentials. -/
def den {n : ℕ} (S : Fin n → EReal) : EReal := ∑ k, Ideal.exp (S k - Finset.univ.fold max ⊥ S)

/-- The weighted sum of the values. -/
def num {n : ℕ} (S V : Fin n → EReal) : EReal := ∑ k, Ideal.exp (S k - Finset.univ.fold max ⊥ S) * V k

theorem fold_max_eq_sup {n : ℕ} (S : Fin n → EReal) : Finset.univ.fold max ⊥ S = Finset.univ.sup S := rfl

theorem exp_bot_sub (m : EReal) : Ideal.exp (⊥ - m) = 0 := by rw [sub_eq_add_neg, EReal.bot_add]; rfl

section window

variable (S V : Fin 640 → EReal) (T W : Fin 576 → EReal) (o : ℕ) (ho : o ≤ 64)
  (hS : ∀ (k : Fin 576) (h : o + k.val < 640), S ⟨o + k.val, h⟩ = T k)
  (hV : ∀ (k : Fin 576) (h : o + k.val < 640), T k ≠ ⊥ → V ⟨o + k.val, h⟩ = W k)
  (hout : ∀ j : Fin 640, (j.val < o ∨ o + 576 ≤ j.val) → S j = ⊥)

include ho hS hout in
theorem max_window : Finset.univ.fold max ⊥ S = Finset.univ.fold max ⊥ T := by
  rw [fold_max_eq_sup, fold_max_eq_sup]
  apply le_antisymm
  · refine Finset.sup_le fun j _ => ?_
    by_cases h : j.val < o ∨ o + 576 ≤ j.val
    · rw [hout j h]; exact bot_le
    · have := hS ⟨j.val - o, by omega⟩ (by show o + (j.val - o) < 640; omega)
      rw [show (⟨o + (j.val - o), by omega⟩ : Fin 640) = j from Fin.ext (by simp; omega)] at this
      rw [this]; exact Finset.le_sup (Finset.mem_univ _)
  · refine Finset.sup_le fun k _ => ?_
    rw [← hS k (by omega)]; exact Finset.le_sup (Finset.mem_univ _)

include ho hout in
/-- A sum over the window whose terms outside the band vanish is the sum over the band. -/
theorem sum_window (f : Fin 640 → EReal) (g : Fin 576 → EReal) (hfg : ∀ (k : Fin 576) (h : o + k.val < 640), f ⟨o + k.val, h⟩ = g k)
    (hf : ∀ j, S j = ⊥ → f j = 0) : ∑ j, f j = ∑ k, g k := by
  refine (Fintype.sum_of_injective (fun k : Fin 576 => (⟨o + k.val, by omega⟩ : Fin 640)) (fun a b h => ?_) g f (fun j hj => ?_) fun k => (hfg k (by omega)).symm).symm
  · have := congrArg Fin.val h; exact Fin.ext (by simp at this; omega)
  · refine hf j (hout j ?_)
    by_contra h
    exact hj ⟨⟨j.val - o, by omega⟩, Fin.ext (by simp; omega)⟩

include ho hS hout in
theorem den_window : den S = den T := by
  unfold den
  refine sum_window S o ho hout _ _ (fun k h => ?_) fun j hj => ?_
  · rw [max_window S T o ho hS hout, hS k h]
  · rw [hj, exp_bot_sub]

include ho hS hout hV in
theorem num_window : num S V = num T W := by
  unfold num
  refine sum_window S o ho hout _ _ (fun k h => ?_) fun j hj => ?_
  · rw [max_window S T o ho hS hout, hS k h]
    by_cases hb : T k = ⊥
    · rw [hb, exp_bot_sub, zero_mul, zero_mul]
    · rw [hV k h hb]
  · rw [hj, exp_bot_sub, zero_mul]

end window

/-- With one real score among scores that are real or masked, the sum of the exponentials is a positive real. -/
theorem den_pos {n : ℕ} (T : Fin n → EReal) (hr : ∀ k, T k = ⊥ ∨ IsReal (T k)) (k0 : Fin n) (h0 : IsReal (T k0)) :
    ∃ l : ℝ, 0 < l ∧ den T = (l : EReal) := by
  have hne : (Finset.univ : Finset (Fin n)).Nonempty := ⟨k0, Finset.mem_univ _⟩
  obtain ⟨k1, _, h1⟩ := Finset.exists_mem_eq_sup Finset.univ hne T
  obtain ⟨a, ha⟩ : IsReal (Finset.univ.sup T) := by
    rcases hr k1 with h | h
    · have : T k0 ≤ ⊥ := by rw [← h, ← h1]; exact Finset.le_sup (Finset.mem_univ _)
      obtain ⟨r, hr0⟩ := h0
      rw [hr0] at this; exact absurd this (by simp)
    · rw [h1]; exact h
  have hk : ∀ k, ∃ e : ℝ, 0 ≤ e ∧ Ideal.exp (T k - (a : EReal)) = (e : EReal) := fun k => by
    rcases hr k with h | ⟨r, h⟩
    · exact ⟨0, le_rfl, by rw [h, exp_bot_sub]; rfl⟩
    · exact ⟨Real.exp (r - a), (Real.exp_pos _).le, by rw [h, ← EReal.coe_sub, Ideal.exp_coe]⟩
  choose e he hE using hk
  have hs : den T = ((∑ k, e k : ℝ) : EReal) := by
    unfold den
    rw [fold_max_eq_sup, ha]
    simp only [hE]
    exact (map_sum (⟨⟨((↑) : ℝ → EReal), rfl⟩, EReal.coe_add⟩ : ℝ →+ EReal) e Finset.univ).symm
  refine ⟨_, ?_, hs⟩
  obtain ⟨r, h⟩ := h0
  have : e k0 = Real.exp (r - a) := by
    have := hE k0
    rw [h, ← EReal.coe_sub, Ideal.exp_coe] at this
    exact (EReal.coe_injective this).symm
  exact lt_of_lt_of_le (this ▸ Real.exp_pos _) (Finset.single_le_sum (f := e) (fun k _ => he k) (Finset.mem_univ k0))

/-- Normalising the weighted sum is summing with normalised weights. -/
theorem normalise {n : ℕ} (T W : Fin n → EReal) (hr : ∀ k, T k = ⊥ ∨ IsReal (T k)) (k0 : Fin n) (h0 : IsReal (T k0)) :
    Ideal.div (num T W) (den T) = ∑ k, Ideal.div (Ideal.exp (T k - Finset.univ.fold max ⊥ T)) (den T) * W k := by
  obtain ⟨l, hl, hd⟩ := den_pos T hr k0 h0
  rw [hd, Ideal.div_coe hl.ne', num, sum_mul_real _ (EReal.coe_nonneg.mpr (by positivity)) (EReal.coe_ne_top _)]
  refine Finset.sum_congr rfl fun k _ => ?_
  rw [Ideal.div_coe hl.ne', mul_right_comm]

/-- The scale may be taken out of the products of the normed query and key rows. -/
theorem scale_out (a w k : Fin 128 → EReal) :
    ∑ d, a d * (w d * Ideal.ofBits .f32 0x3DB504F3#32) * k d = (∑ d, a d * w d * k d) * Ideal.ofBits .f32 0x3DB504F3#32 := by
  obtain ⟨e, he, hE⟩ := ofBits_scale
  rw [hE, sum_mul_real _ (EReal.coe_nonneg.mpr he.le) (EReal.coe_ne_top _)]
  refine Finset.sum_congr rfl fun d _ => ?_
  rw [← mul_assoc, mul_right_comm]

end Cert.Band

end
-- ==== Proof.Body.lean ====
/- What one grid point of the attention kernel computes, in terms of its input blocks: the values and the scores of each
   (head, sub-block, query row, key), then the row's softmax. -/
module

public import proofs.«01_k».proof.Proof.Soft
public import proofs.«01_k».proof.Proof.Gen.KernelIdeal.Value
public import Idealize.ShloMosaic.Lib.Pipeline.ValueKit

@[expose] public section

set_option maxRecDepth 16384

noncomputable section

namespace Cert.Band

open Idealize.ShloMosaic Idealize.ShloMosaic.TcCoe Idealize.SL.Sem
open Idealize.ShloMosaic.Pipeline (Dat)
open Cert.KernelIdeal Cert.KernelIdeal.Gen

/-- Row `n` of two 512-row tiles, one after the other. -/
def catRow (a b : Fin 512 → Fin 128 → EReal) (n : Fin 1024) : Fin 128 → EReal :=
  if h : n.val < 512 then a ⟨n.val, h⟩ else b ⟨n.val - 512, by omega⟩

theorem catRow_at (a b : Fin 512 → Fin 128 → EReal) (n : Fin 1024) (d : Fin 128) :
    catRow a b n d = if h : n.val < 512 then a ⟨n.val, h⟩ d else b ⟨n.val - 512, by omega⟩ d := by
  unfold catRow; split_ifs <;> rfl

theorem catRow_lo (a b : Fin 512 → Fin 128 → EReal) (n : Fin 1024) (d : Fin 128) (h : n.val < 512) :
    catRow a b n d = a ⟨n.val, h⟩ d := by
  unfold catRow; rw [dif_pos h]

theorem catRow_hi (a b : Fin 512 → Fin 128 → EReal) (n : Fin 1024) (d : Fin 128) (h : ¬ n.val < 512) :
    catRow a b n d = b ⟨n.val - 512, by omega⟩ d := by
  unfold catRow; rw [dif_neg h]

theorem normRow_cat (a b : Fin 512 → Fin 128 → EReal) (n : Fin 1024) (w : Fin 128 → EReal) (d : Fin 128) :
    normRow (catRow a b n) w d =
      if h : n.val < 512 then normRow (a ⟨n.val, h⟩) w d else normRow (b ⟨n.val - 512, by omega⟩) w d := by
  unfold catRow; split_ifs <;> rfl

section blocks

variable (i : grid0.Coords) (x0 x1 x2 x3 x4 : Vec Ideal S2x512x128 .bf16) (x5 : Vec Ideal S2x128x640 .f32)
  (x6 x7 : Vec Ideal S1x128 .f32)

/-- The value row that key `k` of sub-block `p` (four sub-blocks for each of two heads) has. -/
theorem vals_at (p : Fin 8) (k : Fin 640) (d : Fin 128) :
    k0_pay33 (F := Ideal) i x0 x1 x2 x3 x4 x5 x6 x7 (ix3 p k d) =
      catRow (fun r d => x3 (ix3 ⟨p.val / 4, by omega⟩ r d)) (fun r d => x4 (ix3 ⟨p.val / 4, by omega⟩ r d))
        ⟨p.val % 4 * 128 + k.val, by omega⟩ d := by
  by_cases h : p.val % 4 * 128 + k.val < 512
  · rw [catRow_lo _ _ _ _ h]
    obtain ⟨p, hp⟩ := p
    unfold k0_pay33
    interval_cases p <;> (pointwise [k0_pay25, k0_pay12, k0_pay13, k0_pay14, k0_pay15, k0_pay6])
    all_goals exact dif_pos (by dsimp only at h; omega)
  · rw [catRow_hi _ _ _ _ h]
    obtain ⟨p, hp⟩ := p
    unfold k0_pay33
    interval_cases p <;> (pointwise [k0_pay25, k0_pay12, k0_pay13, k0_pay14, k0_pay15, k0_pay6])
    all_goals exact dif_neg (by dsimp only at h; omega)

/-- The score, bias included, of query `q` and key `k` of sub-block `p`. -/
theorem scores_at (p : Fin 8) (q : Fin 128) (k : Fin 640) :
    k0_pay34 (F := Ideal) i x0 x1 x2 x3 x4 x5 x6 x7 (ix3 p q k) =
      (∑ d, normRow (fun d => x0 (ix3 ⟨p.val / 4, by omega⟩ ⟨p.val % 4 * 128 + q.val, by omega⟩ d)) (fun d => x6 (ix2 0 d)) d *
        normRow (catRow (fun r d => x1 (ix3 ⟨p.val / 4, by omega⟩ r d)) (fun r d => x2 (ix3 ⟨p.val / 4, by omega⟩ r d))
          ⟨p.val % 4 * 128 + k.val, by omega⟩) (fun d => x7 (ix2 0 d)) d) + x5 (ix3 ⟨p.val / 4, by omega⟩ q k) := by
  obtain ⟨p, hp⟩ := p
  simp only [normRow_cat]
  unfold normRow invRms k0_pay34 k0_pay29 k0_pay30
  interval_cases p <;> (pointwise [k0_pay26, k0_pay2, k0_pay3, k0_pay4, k0_pay5, k0_pay7, k0_pay8, k0_pay9, k0_pay10, k0_pay11, k0_pay16, k0_pay17, k0_pay18, k0_pay19, k0_pay20, k0_pay21, k0_pay22, k0_pay23, k0_pay24])

end blocks

/-! ### The mask of the first tile -/

/-- The first key of the window that exists: the first tile of a sequence has no keys before it. -/
def firstKey (tt p : ℕ) : ℕ := if tt = 0 then 512 - p % 4 * 128 else 0

/-- The row of scores, with −∞ at the keys that do not exist. -/
def maskRow (first : ℕ) (S : Fin 640 → EReal) (k : Fin 640) : EReal := if first ≤ k.val then S k else ⊥

theorem firstKey_word : ∀ (tt : Fin 16) (p : Fin 8),
    IntOp.subi (Scalar.select (Scalar.cmpi CmpIPredicate.sgt (BitVec.ofNat 32 tt.val) 0#32) 0#32 512#32)
      (IntOp.muli
        (Scalar.select
          (IntOp.andi
            (IntOp.xori
              (IntOp.cmpi CmpIPredicate.slt
                (IntOp.remsi ArithUnit.vector (BitVec.ofNat 32 p.val)
                  (Scalar.select (Scalar.cmpi CmpIPredicate.eq 4#32 0#32) 1#32 4#32))
                0#32)
              (Scalar.cmpi CmpIPredicate.slt
                (Scalar.select (Scalar.cmpi CmpIPredicate.eq 4#32 0#32) 1#32 4#32) 0#32))
            (IntOp.cmpi CmpIPredicate.ne
              (IntOp.remsi ArithUnit.vector (BitVec.ofNat 32 p.val)
                (Scalar.select (Scalar.cmpi CmpIPredicate.eq 4#32 0#32) 1#32 4#32))
              0#32))
          (IntOp.addi
            (IntOp.remsi ArithUnit.vector (BitVec.ofNat 32 p.val)
              (Scalar.select (Scalar.cmpi CmpIPredicate.eq 4#32 0#32) 1#32 4#32))
            (Scalar.select (Scalar.cmpi CmpIPredicate.eq 4#32 0#32) 1#32 4#32))
          (IntOp.remsi ArithUnit.vector (BitVec.ofNat 32 p.val)
            (Scalar.select (Scalar.cmpi CmpIPredicate.eq 4#32 0#32) 1#32 4#32)))
        (Scalar.select (Scalar.cmpi CmpIPredicate.sgt (BitVec.ofNat 32 tt.val) 0#32) 0#32 128#32))
      = BitVec.ofNat 32 (firstKey tt.val p.val) := by
  decide +kernel

theorem named_mask : Named.named (F := Ideal) κ "mask" (φ := .f32) 0xF149F2CA#32 = ⊥ := rfl

/-- A sub-block's row of the result: the softmax of the masked scores, over the values. -/
theorem soft_at (tt : Fin 16) (V : FVec Ideal S8x640x128 .bf16) (S : FVec Ideal S8x128x640 .f32) (p : Fin 8) (q d : Fin 128) :
    k0_pay27 (F := Ideal) (BitVec.ofNat 32 tt.val) V S (iota .tc S8x128x640 32 [2] iota_S8x128x640_d2_w32)
        (iota .tc S8x128x640 32 [0] iota_S8x128x640_d0_w32) 4#32 (ix3 p q d) =
      Ideal.div (num (maskRow (firstKey tt.val p.val) fun k => S (ix3 p q k)) fun k => V (ix3 p k d))
        (den (maskRow (firstKey tt.val p.val) fun k => S (ix3 p q k))) := by
  have hm : ∀ k : Fin 640, Scalar.select (IntOp.cmpi CmpIPredicate.sge (BitVec.ofNat 32 k.val) (BitVec.ofNat 32 (firstKey tt.val p.val)))
      (S (ix3 p q k)) (Named.named (F := Ideal) κ "mask" (φ := .f32) 0xF149F2CA#32) =
      maskRow (firstKey tt.val p.val) (fun k => S (ix3 p q k)) k := fun k => by
    have hf : firstKey tt.val p.val ≤ 512 := by unfold firstKey; split_ifs <;> omega
    rw [WordCmp.cmpi_sge_ofNat (by omega) (by omega), named_mask]
    unfold maskRow Scalar.select
    by_cases h : firstKey tt.val p.val ≤ k.val <;> simp [h]
  pointwise [k0_pay27]
  simp only [firstKey_word tt p, hm, ofBits_neg_inf]
  rfl

section out

variable (i : grid0.Coords) (x0 x1 x2 x3 x4 : Vec Ideal S2x512x128 .bf16) (x5 : Vec Ideal S2x128x640 .f32)
  (x6 x7 : Vec Ideal S1x128 .f32)

/-- The masked scores of query row `r` of the tile, for head `hd` of the tile's two. -/
def rowScores (tt : ℕ) (hd : Fin 2) (r : Fin 512) : Fin 640 → EReal :=
  maskRow (firstKey tt (r.val / 128)) fun k =>
    (∑ d, normRow (fun d => x0 (ix3 hd r d)) (fun d => x6 (ix2 0 d)) d *
      normRow (catRow (fun r d => x1 (ix3 hd r d)) (fun r d => x2 (ix3 hd r d)) ⟨r.val / 128 * 128 + k.val, by omega⟩)
        (fun d => x7 (ix2 0 d)) d) + x5 (ix3 hd ⟨r.val % 128, by omega⟩ k)

/-- The values column `d` of query row `r`'s window, for head `hd`. -/
def rowVals (hd : Fin 2) (r : Fin 512) (d : Fin 128) : Fin 640 → EReal := fun k =>
  catRow (fun r d => x3 (ix3 hd r d)) (fun r d => x4 (ix3 hd r d)) ⟨r.val / 128 * 128 + k.val, by omega⟩ d

/-- Row `r`, head `hd`, column `d` of one grid point's output. -/
def rowOut (tt : ℕ) (hd : Fin 2) (r : Fin 512) (d : Fin 128) : EReal :=
  Ideal.div (num (rowScores x0 x1 x2 x5 x6 x7 tt hd r) (rowVals x3 x4 hd r d)) (den (rowScores x0 x1 x2 x5 x6 x7 tt hd r))

/-- One grid point's output block: two heads side by side. -/
def tileOut (tt : ℕ) (y : S512x256.Idx) : EReal :=
  rowOut x0 x1 x2 x3 x4 x5 x6 x7 tt ⟨(y 1).val / 128, by have : (y 1).val < 256 := (y 1).isLt; omega⟩ (y 0)
    ⟨(y 1).val % 128, by omega⟩

theorem soft_row (p : Fin 8) (q d : Fin 128) (tt : Fin 16) (hd : Fin 2) (r : Fin 512) (hp : p.val = hd.val * 4 + r.val / 128)
    (hq : q.val = r.val % 128) :
    k0_pay27 (F := Ideal) (BitVec.ofNat 32 tt.val) (k0_pay33 i x0 x1 x2 x3 x4 x5 x6 x7) (k0_pay34 i x0 x1 x2 x3 x4 x5 x6 x7)
        (k0_pay31 (F := Ideal) i x0 x1 x2 x3 x4 x5 x6 x7) (k0_pay32 (F := Ideal) i x0 x1 x2 x3 x4 x5 x6 x7) 4#32 (ix3 p q d) =
      rowOut x0 x1 x2 x3 x4 x5 x6 x7 tt.val hd r d := by
  have e1 : (⟨p.val / 4, by omega⟩ : Fin 2) = hd := Fin.ext (by show p.val / 4 = hd.val; omega)
  have e2 : p.val % 4 = r.val / 128 := by omega
  have e3 : (⟨r.val / 128 * 128 + q.val, by omega⟩ : Fin 512) = r := Fin.ext (by show r.val / 128 * 128 + q.val = r.val; omega)
  have e4 : q = ⟨r.val % 128, by omega⟩ := Fin.ext hq
  have e5 : firstKey tt.val p.val = firstKey tt.val (r.val / 128) := by
    unfold firstKey; rw [e2, Nat.mod_eq_of_lt (show r.val / 128 < 4 by omega)]
  unfold k0_pay31 k0_pay32
  rw [soft_at]
  simp only [vals_at, scores_at]
  unfold rowOut rowScores rowVals
  simp only [e1, e5, e2, e3, ← e4]

theorem out_at (tt : Fin 16) (hi : (i 1).val = tt.val) (y : S512x256.Idx) :
    out0_8 (F := Ideal) i x0 x1 x2 x3 x4 x5 x6 x7 y = tileOut x0 x1 x2 x3 x4 x5 x6 x7 tt.val y := by
  unfold out0_8
  rw [hi]
  have hy1 : (y 1).val < 256 := (y 1).isLt
  canon_tiles x h
  · have hr : x 0 = y 0 := Fin.ext h0.symm
    have hd : (⟨(y 1).val / 128, by omega⟩ : Fin 2) = 1 := Fin.ext (by show (y 1).val / 128 = 1; omega)
    have hc : (⟨(y 1).val % 128, by omega⟩ : Fin 128) = x 1 := Fin.ext (by show (y 1).val % 128 = (x 1).val; omega)
    pointwise [k0_pay1]
    refine (soft_row i x0 x1 x2 x3 x4 x5 x6 x7 ⟨4 + (x 0).val / 128, by omega⟩ ⟨(x 0).val % 128, by omega⟩ (x 1) tt 1 (y 0)
      (by show 4 + (x 0).val / 128 = 1 * 4 + (y 0).val / 128; omega) (by show (x 0).val % 128 = (y 0).val % 128; omega)).trans ?_
    exact congrArg₂ (fun a b => rowOut x0 x1 x2 x3 x4 x5 x6 x7 tt.val a (y 0) b) hd.symm hc.symm
  · have hr : x 0 = y 0 := Fin.ext h0.symm
    have hd : (⟨(y 1).val / 128, by omega⟩ : Fin 2) = 0 := Fin.ext (by show (y 1).val / 128 = 0; omega)
    have hc : (⟨(y 1).val % 128, by omega⟩ : Fin 128) = x 1 := Fin.ext (by show (y 1).val % 128 = (x 1).val; omega)
    pointwise [k0_pay28]
    refine (soft_row i x0 x1 x2 x3 x4 x5 x6 x7 ⟨(x 0).val / 128, by omega⟩ ⟨(x 0).val % 128, by omega⟩ (x 1) tt 0 (y 0)
      (by show (x 0).val / 128 = 0 * 4 + (y 0).val / 128; omega) (by show (x 0).val % 128 = (y 0).val % 128; omega)).trans ?_
    exact congrArg₂ (fun a b => rowOut x0 x1 x2 x3 x4 x5 x6 x7 tt.val a (y 0) b) hd.symm hc.symm

end out

end Cert.Band

end
-- ==== Proof.Bias.lean ====
/- What the launch finds in the three operands that the host prepares: the two norm weights (the query's scaled) and the
   relative-position bias of one 128-row sub-block, masked to the band. -/
module

public import proofs.«01_k».proof.Proof.Soft
public import proofs.«01_k».proof.Proof.Gen.KernelIdeal.Value
public import Idealize.ShloMosaic.Lib.Pipeline.ValueKit

@[expose] public section

set_option maxRecDepth 16384

noncomputable section

namespace Cert.Band

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The projection's column blocks, one per head of each of its parts. -/
def argP : S112x16384x128.Idx → EReal := m ((c : Thread nD τ).loc main_arg0)

/-- The relative-position bias. -/
def argB : S16x513.Idx → EReal := m ((c : Thread nD τ).loc main_arg1)

/-- The query's norm weight. -/
def argQ (d : Fin 128) : EReal := m ((c : Thread nD τ).loc main_arg2) (ix1 d)

/-- The key's norm weight. -/
def argK (d : Fin 128) : EReal := m ((c : Thread nD τ).loc main_arg3) (ix1 d)

theorem kw_at (d : Fin 128) : V m c main_v31 (ix2 0 d) = argK m c d := by
  unfold argK
  simp only [V, hostOps0, hostOps0_1, hostOps0_2, hostOps0_3, hostOps0_4, hostOps0_5, hostOps0_6, List.flatten_cons,
    List.flatten_nil, List.append_nil, List.cons_append, List.nil_append]
  entry_read
  pointwise

theorem qw_at (d : Fin 128) : V m c main_v30 (ix2 0 d) = argQ m c d * Ideal.ofBits .f32 0x3DB504F3#32 := by
  unfold argQ
  simp only [V, hostOps0, hostOps0_1, hostOps0_2, hostOps0_3, hostOps0_4, hostOps0_5, hostOps0_6, List.flatten_cons,
    List.flatten_nil, List.append_nil, List.cons_append, List.nil_append]
  entry_read
  pointwise

/-- A column of the bias table per position: the row is kept, the column is the start index, clamped into the table. -/
theorem gather_bias (x : S16x513.Idx → EReal) (idx : IVec S768x1 32) (h : Fin 16) (j : Fin 768) :
    Host.gather gather_S16x513_S768x1_S16x768_0_1_n_n_1_1_161 x idx (ix2 h j) =
      x (ix2 h ⟨min (idx (ix2 j 0)).toInt.toNat 512, by omega⟩) := by
  unfold Host.gather
  congr 1
  funext a
  refine Fin.ext ?_
  show gather_S16x513_S768x1_S16x768_0_1_n_n_1_1_161.start (ix2 h j) idx a +
    gather_S16x513_S768x1_S16x768_0_1_n_n_1_1_161.batchCoord (ix2 h j) a +
    gather_S16x513_S768x1_S16x768_0_1_n_n_1_1_161.offCoord (ix2 h j) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ gather_S16x513_S768x1_S16x768_0_1_n_n_1_1_161.startIndexMap by show (0 : Fin 2) ∉ ([1] : List (Fin 2)); decide), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 2) ∈ gather_S16x513_S768x1_S16x768_0_1_n_n_1_1_161.startIndexMap from List.mem_singleton.mpr rfl)]
    have hsi : gather_S16x513_S768x1_S16x768_0_1_n_n_1_1_161.siIdx (ix2 h j)
        ⟨List.idxOf (1 : Fin 2) gather_S16x513_S768x1_S16x768_0_1_n_n_1_1_161.startIndexMap,
          List.idxOf_lt_length_iff.2 (List.mem_singleton.mpr rfl)⟩ = ix2 j 0 := by
      funext b; refine Fin.ext ?_
      match b with
      | ⟨0, _⟩ => rfl
      | ⟨1, _⟩ => rfl
    rw [hsi]
    rfl

/-- The table of clipped distances, by residue modulo 768. -/
theorem lit_at : ∀ j : Fin 768, min (lit0 j).toInt.toNat 512 = if j.val < 640 then min 512 (768 - j.val) else 512 := by
  decide +kernel

/-- The host's rounded-down division by 64 of a word. -/
def blockWord (w : BitVec 32) : BitVec 32 :=
  Scalar.select
    (IntOp.andi
      (IntOp.cmpi CmpIPredicate.ne (if w = 0 then (0 : BitVec 32) else if w.msb = true then -1 else 1)
        (if 64#32 = 0 then (0 : BitVec 32) else if (64#32).msb = true then -1 else 1))
      (IntOp.cmpi CmpIPredicate.ne (IntOp.remsi ArithUnit.host w 64#32) 0#32))
    (IntOp.subi (IntOp.divsi ArithUnit.host w 64#32) 1#32) (IntOp.divsi ArithUnit.host w 64#32)

theorem block_word : ∀ n : Fin 640, blockWord (BitVec.ofNat 32 n.val) = BitVec.ofNat 32 (n.val / 64) := by
  decide +kernel

/-- The sub-block's bias: inside the band the table's entry at the clipped distance, outside it −∞. -/
def biasAt (b : S16x513.Idx → EReal) (h : Fin 16) (q k : ℕ) : EReal :=
  if q / 64 ≤ k / 64 ∧ k / 64 ≤ q / 64 + 8 then b (ix2 h ⟨min 512 (768 + q - k), by omega⟩) else ⊥

/-- The masked gather, once its condition and its start index are known. -/
theorem masked_gather (b : S16x513.Idx → EReal) (I : IVec S768x1 32) (h : Fin 16) (j : Fin 768) (t : BitVec 1) (q k : ℕ)
    (hq : q < 128) (hk : k < 640) (hj : j.val = (q * 767 + k) % 768)
    (ht : t = IntOp.andi (IntOp.cmpi .sge (BitVec.ofNat 32 (k / 64)) (BitVec.ofNat 32 (q / 64)))
      (IntOp.cmpi .sle (BitVec.ofNat 32 (k / 64)) (IntOp.addi (BitVec.ofNat 32 (q / 64)) 8#32)))
    (hI : min (I (ix2 j 0)).toInt.toNat 512 = if j.val < 640 then min 512 (768 - j.val) else 512) :
    Scalar.select t (Host.gather gather_S16x513_S768x1_S16x768_0_1_n_n_1_1_161 b I (ix2 h j)) (Ideal.ofBits FTy.f32 4286578688#32) =
      biasAt b h q k := by
  have e2 : (⟨min (I (ix2 j 0)).toInt.toNat 512, by omega⟩ : Fin 513) = ⟨min 512 (768 + q - k), by omega⟩ := by
    refine Fin.ext (hI.trans ?_)
    rw [hj]
    show _ = min 512 (768 + q - k)
    split_ifs <;> omega
  have e3 : IntOp.addi (BitVec.ofNat 32 (q / 64)) 8#32 = BitVec.ofNat 32 (q / 64 + 8) := by
    show BitVec.ofNat 32 (q / 64) + BitVec.ofNat 32 8 = _
    rw [BitVec.ofNat_add]
  rw [gather_bias, ofBits_neg_inf, e2, ht, e3, WordCmp.cmpi_sge_ofNat (by omega) (by omega), WordCmp.cmpi_sle_ofNat (by omega) (by omega)]
  unfold biasAt
  by_cases h1 : q / 64 ≤ k / 64 <;> by_cases h2 : k / 64 ≤ q / 64 + 8 <;> simp [h1, h2, Scalar.select, IntOp.andi]

theorem bias_at (h : Fin 16) (q : Fin 128) (k : Fin 640) : V m c main_v27 (ix3 h q k) = biasAt (argB m c) h q.val k.val := by
  simp only [V, hostOps0, hostOps0_1, hostOps0_2, hostOps0_3, hostOps0_4, hostOps0_5, hostOps0_6, List.flatten_cons,
    List.flatten_nil, List.append_nil, List.cons_append, List.nil_append]
  have hL := lit_at
  revert hL
  generalize lit0 = L
  intro hL
  entry_read
  simp only [StableHlo.TRef.ofBuf, StableHlo.TRef.toBuf, cast_eq, cast_cast]
  pointwise
  refine masked_gather (argB m c) _ h _ _ q.val k.val q.isLt k.isLt rfl ?_ ?_
  · have e1 : blockWord (BitVec.ofNat 32 q.val) = BitVec.ofNat 32 (q.val / 64) := block_word ⟨q.val, by omega⟩
    rw [← e1, ← block_word k]
    rfl
  · have hi : (broadcastInDim S768x1 ![0] bcast_S768_S768x1_0
          (select (constantI S768 1 0#1)
            (addi (fun i => L (S768.rowMajor i)) (broadcastInDim S768 ![] bcast_S_S768 (constantI S_ 32 513#32)))
            fun i => L (S768.rowMajor i))) (ix2 ⟨(q.val * 767 + k.val) % 768, Nat.mod_lt _ (by omega)⟩ 0) =
      L ⟨(q.val * 767 + k.val) % 768, Nat.mod_lt _ (by omega)⟩ := by
      pointwise
      exact congrArg L (Fin.ext (rowMajor_val1 _))
    refine (congrArg (fun w : BitVec 32 => min w.toInt.toNat 512) hi).trans (hL _)

end Cert.Band

end
-- ==== Proof.Ref.lean ====
/- The reference's result, stage by stage: the heads of a part of the projection, the norm, the band of keys that a block of
   64 queries sees, the bias, the masked scores, the softmax and the weighted sum. -/
module

public import proofs.«01_k».proof.Proof.Soft
public import proofs.«01_k».proof.Proof.Gen.ReferenceIdeal.Run
public import Idealize.ShloMosaic.Lib.Pipeline.ValueKit
public import Idealize.ShloMosaic.Lib.WordCmp

@[expose] public section

set_option maxRecDepth 16384

noncomputable section

namespace Cert.BandRef

open Idealize.ShloMosaic Idealize.ShloMosaic.TcCoe Idealize.SL.Sem
open Cert.ReferenceIdeal Cert.ReferenceIdeal.Gen Cert.Band

/-- The query heads. -/
def headsQ (P : FVec Ideal S112x16384x128 .bf16) : FVec Ideal S2x16x8192x128 .f32 :=
  transpose S2x16x8192x128 [1, 0, 2, 3] (shapeCast _ (extf .f32 (extractStridedSlice S16x16384x128 ![0, 0, 0] P slices_S112x16384x128_S16x16384x128_0_0_0) bitsLt_bf16_f32) shapeCasts_S16x16384x128_S16x2x8192x128) transposes_S16x2x8192x128_S2x16x8192x128_1_0_2_3

/-- The key heads. -/
def headsK (P : FVec Ideal S112x16384x128 .bf16) : FVec Ideal S2x16x8192x128 .f32 :=
  transpose S2x16x8192x128 [1, 0, 2, 3] (shapeCast _ (extf .f32 (extractStridedSlice S16x16384x128 ![16, 0, 0] P slices_S112x16384x128_S16x16384x128_16_0_0) bitsLt_bf16_f32) shapeCasts_S16x16384x128_S16x2x8192x128) transposes_S16x2x8192x128_S2x16x8192x128_1_0_2_3

/-- The value heads. -/
def headsV (P : FVec Ideal S112x16384x128 .bf16) : FVec Ideal S2x16x8192x128 .f32 :=
  transpose S2x16x8192x128 [1, 0, 2, 3] (shapeCast _ (extf .f32 (extractStridedSlice S16x16384x128 ![32, 0, 0] P slices_S112x16384x128_S16x16384x128_32_0_0) bitsLt_bf16_f32) shapeCasts_S16x16384x128_S16x2x8192x128) transposes_S16x2x8192x128_S2x16x8192x128_1_0_2_3

/-- Each row normed and weighted. -/
def normed (X : FVec Ideal S2x16x8192x128 .f32) (w : FVec Ideal S128 .f32) : FVec Ideal S2x16x8192x128 .f32 :=
  mulf (mulf X (broadcastInDim S2x16x8192x128 ![0, 1, 2, 3] bcast_S2x16x8192x1_S2x16x8192x128_0_1_2_3 (Host.rsqrt (addf (Host.divf (broadcastInDim S2x16x8192x1 ![0, 1, 2] bcast_S2x16x8192_S2x16x8192x1_0_1_2 (Host.reduceAdd (mulf X X) (constant S_ .f32 0x00000000#32) reducesTo_S2x16x8192x128_S2x16x8192_d3 h_S_)) (broadcastInDim S2x16x8192x1 ![] bcast_S_S2x16x8192x1 (constant S_ .f32 0x43000000#32))) (broadcastInDim S2x16x8192x1 ![] bcast_S_S2x16x8192x1 (constant S_ .f32 0x358637BD#32)))))) (broadcastInDim S2x16x8192x128 ![0, 1, 2, 3] bcast_S1x1x1x128_S2x16x8192x128_0_1_2_3 (broadcastInDim S1x1x1x128 ![3] bcast_S128_S1x1x1x128_3 w))

/-- The padded row of each block's keys. -/
def bandNum : IVec S128x576 32 :=
  addi (broadcastInDim S128x576 ![0, 1] bcast_S128x1_S128x576_0_1 (muli (broadcastInDim S128x1 ![0] bcast_S128_S128x1_0 (iotaInDim S128 32 0)) (broadcastInDim S128x1 ![] bcast_S_S128x1 (constantI S_ 32 64#32)))) (broadcastInDim S128x576 ![0, 1] bcast_S1x576_S128x576_0_1 (broadcastInDim S1x576 ![1] bcast_S576_S1x576_1 (iotaInDim S576 32 0)))

/-- The same as start indices. -/
def bandIx : IVec S128x576x1 32 :=
  broadcastInDim S128x576x1 ![0, 1] bcast_S128x576_S128x576x1_0_1 (select (cmpi .slt bandNum (broadcastInDim S128x576 ![] bcast_S_S128x576 (constantI S_ 32 0#32))) (addi bandNum (broadcastInDim S128x576 ![] bcast_S_S128x576 (constantI S_ 32 8704#32))) bandNum)

/-- Each block's keys, gathered from the padded rows. -/
def banded (X : FVec Ideal S2x16x8192x128 .f32) : FVec Ideal S2x16x128x576x128 .f32 :=
  Host.gather gather_S2x16x8704x128_S128x576x1_S2x16x128x576x128_014_2_n_n_2_2_2161128 (pad S2x16x8704x128 ![0, 0, 512, 0] ![0, 0, 0, 0] ![0, 0, 0, 0] X (sitofp .f32 (constantI S_ 32 0#32)) pads_S2x16x8192x128_S2x16x8704x128_000_000_51200_000 h_S_) bandIx

/-- The clipped distance, counted from zero. -/
def distNum : IVec S64x576 32 :=
  addi (minsi (broadcastInDim S64x576 ![] bcast_S_S64x576 (id (constantI S_ 32 256#32))) (maxsi (broadcastInDim S64x576 ![] bcast_S_S64x576 (id (constantI S_ 32 4294967040#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 256#32))

/-- The same as start indices. -/
def biasIx : IVec S64x576x1 32 :=
  broadcastInDim S64x576x1 ![0, 1] bcast_S64x576_S64x576x1_0_1 (select (cmpi .slt distNum (broadcastInDim S64x576 ![] bcast_S_S64x576 (constantI S_ 32 0#32))) (addi distNum (broadcastInDim S64x576 ![] bcast_S_S64x576 (constantI S_ 32 513#32))) distNum)

/-- The bias of a block. -/
def biasBand (B : FVec Ideal S16x513 .f32) : FVec Ideal S16x64x576 .f32 :=
  Host.gather gather_S16x513_S64x576x1_S16x64x576_0_1_n_n_1_2_161 B biasIx

/-- The masked scores. -/
def scores (Q : FVec Ideal S2x16x8192x128 .f32) (K : FVec Ideal S2x16x128x576x128 .f32) (b : FVec Ideal S16x64x576 .f32) : FVec Ideal S2x16x128x64x576 .f32 :=
  select (broadcastInDim S2x16x128x64x576 ![0, 1, 2, 3, 4] bcast_S1x1x128x1x576_S2x16x128x64x576_0_1_2_3_4 (broadcastInDim S1x1x128x1x576 ![2, 4] bcast_S128x576_S1x1x128x1x576_2_4 (cmpi .sge (subi bandNum (broadcastInDim S128x576 ![] bcast_S_S128x576 (constantI S_ 32 512#32))) (broadcastInDim S128x576 ![] bcast_S_S128x576 (constantI S_ 32 0#32))))) (addf (mulf (Host.dotGeneral dot_S2x16x128x64x128_S2x16x128x576x128_S2x16x128x64x576_4_4_3_3_012_012 none (shapeCast _ Q shapeCasts_S2x16x8192x128_S2x16x128x64x128) K) (broadcastInDim S2x16x128x64x576 ![] bcast_S_S2x16x128x64x576 (constant S_ .f32 0x3DB504F3#32))) (broadcastInDim S2x16x128x64x576 ![0, 1, 2, 3, 4] bcast_S1x16x1x64x576_S2x16x128x64x576_0_1_2_3_4 (broadcastInDim S1x16x1x64x576 ![1, 3, 4] bcast_S16x64x576_S1x16x1x64x576_1_3_4 b))) (broadcastInDim S2x16x128x64x576 ![] bcast_S_S2x16x128x64x576 (id (constant S_ .f32 0xFF800000#32)))

/-- The exponentials of a row, its maximum taken off. -/
def expRow (S : FVec Ideal S2x16x128x64x576 .f32) : FVec Ideal S2x16x128x64x576 .f32 :=
  Host.exp (subf S (broadcastInDim S2x16x128x64x576 ![0, 1, 2, 3, 4] bcast_S2x16x128x64x1_S2x16x128x64x576_0_1_2_3_4 (broadcastInDim S2x16x128x64x1 ![0, 1, 2, 3] bcast_S2x16x128x64_S2x16x128x64x1_0_1_2_3 (maximumf (broadcastInDim S2x16x128x64 ![] bcast_S_S2x16x128x64 (constant S_ .f32 0xFF800000#32)) (Host.reduce FloatOps.maximumf S (constant S_ .f32 0xFF800000#32) reducesTo_S2x16x128x64x576_S2x16x128x64_d4 h_S_)))))

/-- The weighted sum of the values. -/
def attend (S : FVec Ideal S2x16x128x64x576 .f32) (V : FVec Ideal S2x16x128x576x128 .f32) : FVec Ideal S2x16x128x64x128 .f32 :=
  Host.dotGeneral dot_S2x16x128x64x576_S2x16x128x576x128_S2x16x128x64x128_4_3_3_4_012_012 none (Host.divf (expRow S) (broadcastInDim S2x16x128x64x576 ![0, 1, 2, 3, 4] bcast_S2x16x128x64x1_S2x16x128x64x576_0_1_2_3_4 (broadcastInDim S2x16x128x64x1 ![0, 1, 2, 3] bcast_S2x16x128x64_S2x16x128x64x1_0_1_2_3 (Host.reduceAdd (expRow S) (constant S_ .f32 0x00000000#32) reducesTo_S2x16x128x64x576_S2x16x128x64_d4 h_S_)))) V

/-- Heads and blocks put back into rows. -/
def joined (O : FVec Ideal S2x16x128x64x128 .f32) : FVec Ideal S16384x2048 .bf16 :=
  truncf .bf16 (shapeCast _ (transpose S2x8192x16x128 [0, 2, 1, 3] (shapeCast _ O shapeCasts_S2x16x128x64x128_S2x16x8192x128) transposes_S2x16x8192x128_S2x8192x16x128_0_2_1_3) shapeCasts_S2x8192x16x128_S16384x2048) bitsLt_bf16_f32

theorem res_stages (m : (ℓ : Loc nD τ sig) → Buf (Elt Ideal) ℓ) (c : Dev nD) :
    Value.res_main_v109 m c =
      joined (attend (scores (normed (headsQ (m ((c.tc : Thread nD τ).loc main_arg0))) (m ((c.tc : Thread nD τ).loc main_arg2)))
          (banded (normed (headsK (m ((c.tc : Thread nD τ).loc main_arg0))) (m ((c.tc : Thread nD τ).loc main_arg3))))
          (biasBand (m ((c.tc : Thread nD τ).loc main_arg1))))
        (banded (headsV (m ((c.tc : Thread nD τ).loc main_arg0))))) := by
  unfold Value.res_main_v109
  rfl

theorem headsQ_at (P : FVec Ideal S112x16384x128 .bf16) (b : Fin 2) (h : Fin 16) (s : Fin 8192) (d : Fin 128) :
    headsQ P (ix4 b h s d) = P (ix3 ⟨h.val, by omega⟩ ⟨b.val * 8192 + s.val, by omega⟩ d) := by
  unfold headsQ
  pointwise

theorem headsK_at (P : FVec Ideal S112x16384x128 .bf16) (b : Fin 2) (h : Fin 16) (s : Fin 8192) (d : Fin 128) :
    headsK P (ix4 b h s d) = P (ix3 ⟨16 + h.val, by omega⟩ ⟨b.val * 8192 + s.val, by omega⟩ d) := by
  unfold headsK
  pointwise

theorem headsV_at (P : FVec Ideal S112x16384x128 .bf16) (b : Fin 2) (h : Fin 16) (s : Fin 8192) (d : Fin 128) :
    headsV P (ix4 b h s d) = P (ix3 ⟨32 + h.val, by omega⟩ ⟨b.val * 8192 + s.val, by omega⟩ d) := by
  unfold headsV
  pointwise

theorem normed_at (X : FVec Ideal S2x16x8192x128 .f32) (w : FVec Ideal S128 .f32) (b : Fin 2) (h : Fin 16) (s : Fin 8192) (d : Fin 128) :
    normed X w (ix4 b h s d) = normRow (fun d => X (ix4 b h s d)) (fun d => w (ix1 d)) d := by
  unfold normed
  pointwise
  rfl

theorem bandIx_at (a : Fin 128) (k : Fin 576) : bandIx (ix3 a k 0) = BitVec.ofNat 32 (a.val * 64 + k.val) := by
  have h0 : IntOp.addi (IntOp.muli (BitVec.ofNat 32 a.val) 64#32) (BitVec.ofNat 32 k.val) = BitVec.ofNat 32 (a.val * 64 + k.val) := by
    show BitVec.ofNat 32 a.val * BitVec.ofNat 32 64 + BitVec.ofNat 32 k.val = _
    rw [BitVec.ofNat_add, BitVec.ofNat_mul]
  unfold bandIx bandNum
  pointwise
  rw [h0, show (0#32 : BitVec 32) = BitVec.ofNat 32 0 from rfl, WordCmp.cmpi_slt_ofNat (by omega) (by omega)]
  rfl

theorem distWords : ∀ n : Fin 640, min (Scalar.select (IntOp.cmpi .slt
      (IntOp.addi (IntOp.minsi 256#32 (IntOp.maxsi 4294967040#32 (BitVec.ofNat 32 n.val))) 256#32) 0#32)
      (IntOp.addi (IntOp.addi (IntOp.minsi 256#32 (IntOp.maxsi 4294967040#32 (BitVec.ofNat 32 n.val))) 256#32) 513#32)
      (IntOp.addi (IntOp.minsi 256#32 (IntOp.maxsi 4294967040#32 (BitVec.ofNat 32 n.val))) 256#32)).toInt.toNat 512 =
    min 512 (n.val + 256) := by
  decide +kernel

theorem distWordsNeg : ∀ n : Fin 64, min (Scalar.select (IntOp.cmpi .slt
      (IntOp.addi (IntOp.minsi 256#32 (IntOp.maxsi 4294967040#32 (BitVec.ofNat 32 (4294967295 - n.val)))) 256#32) 0#32)
      (IntOp.addi (IntOp.addi (IntOp.minsi 256#32 (IntOp.maxsi 4294967040#32 (BitVec.ofNat 32 (4294967295 - n.val)))) 256#32) 513#32)
      (IntOp.addi (IntOp.minsi 256#32 (IntOp.maxsi 4294967040#32 (BitVec.ofNat 32 (4294967295 - n.val)))) 256#32)).toInt.toNat 512 =
    min 512 (255 - n.val) := by
  decide +kernel

theorem biasIx_at (i : Fin 64) (k : Fin 576) : min (biasIx (ix3 i k 0)).toInt.toNat 512 = min 512 (768 + i.val - k.val) := by
  have hw : ∃ n : ℕ, IntOp.subi (IntOp.addi (512#32) (BitVec.ofNat 32 i.val)) (BitVec.ofNat 32 k.val) = BitVec.ofNat 32 n ∧
      ((n < 640 ∧ n + 256 = 768 + i.val - k.val) ∨ ∃ e : ℕ, e < 64 ∧ n = 4294967295 - e ∧ 255 - e = 768 + i.val - k.val) := by
    have hs : IntOp.subi (IntOp.addi (512#32) (BitVec.ofNat 32 i.val)) (BitVec.ofNat 32 k.val) =
        BitVec.ofNat 32 (4294967296 - k.val + (512 + i.val)) := by
      refine BitVec.eq_of_toNat_eq ?_
      show ((512#32 + BitVec.ofNat 32 i.val) - BitVec.ofNat 32 k.val).toNat = _
      simp only [BitVec.toNat_sub, BitVec.toNat_add, BitVec.toNat_ofNat]
      omega
    rw [hs]
    by_cases h : k.val ≤ 512 + i.val
    · refine ⟨512 + i.val - k.val, ?_, Or.inl ⟨by omega, by omega⟩⟩
      refine BitVec.eq_of_toNat_eq ?_
      simp only [BitVec.toNat_ofNat]
      omega
    · refine ⟨4294967296 - k.val + (512 + i.val), rfl, Or.inr ⟨k.val - 513 - i.val, by omega, by omega, by omega⟩⟩
  obtain ⟨n, hn, hc⟩ := hw
  unfold biasIx distNum
  pointwise
  rw [hn]
  rcases hc with ⟨h1, h2⟩ | ⟨e, h1, rfl, h2⟩
  · rw [← h2]; exact distWords ⟨n, h1⟩
  · rw [← h2]; exact distWordsNeg ⟨e, h1⟩

theorem scores_at (Q : FVec Ideal S2x16x8192x128 .f32) (K : FVec Ideal S2x16x128x576x128 .f32) (B : FVec Ideal S16x64x576 .f32)
    (b : Fin 2) (h : Fin 16) (a : Fin 128) (i : Fin 64) (k : Fin 576) :
    scores Q K B (ix5 b h a i k) = if 512 ≤ a.val * 64 + k.val then
      (∑ d, Q (ix4 b h ⟨a.val * 64 + i.val, by omega⟩ d) * K (ix5 b h a k d)) * Ideal.ofBits .f32 0x3DB504F3#32 + B (ix3 h i k) else ⊥ := by
  have hw : IntOp.cmpi .sge (IntOp.subi (IntOp.addi (IntOp.muli (BitVec.ofNat 32 a.val) 64#32) (BitVec.ofNat 32 k.val)) 512#32) 0#32 =
      BitVec.ofBool (decide (512 ≤ a.val * 64 + k.val)) := by
    have h0 : IntOp.addi (IntOp.muli (BitVec.ofNat 32 a.val) 64#32) (BitVec.ofNat 32 k.val) = BitVec.ofNat 32 (a.val * 64 + k.val) := by
      show BitVec.ofNat 32 a.val * BitVec.ofNat 32 64 + BitVec.ofNat 32 k.val = _
      rw [BitVec.ofNat_add, BitVec.ofNat_mul]
    rw [h0]
    have hl : a.val * 64 + k.val < 8704 := by omega
    generalize a.val * 64 + k.val = n at hl ⊢
    show BitVec.ofBool ((0#32).sle (BitVec.ofNat 32 n - 512#32)) = _
    refine congrArg _ ?_
    rw [BitVec.sle_eq_decide, BitVec.toInt_eq_toNat_bmod, BitVec.toInt_eq_toNat_bmod]
    simp only [BitVec.toNat_sub, BitVec.toNat_ofNat, Int.bmod]
    refine decide_eq_decide.mpr ?_
    omega
  unfold scores bandNum
  pointwise
  rw [hw]
  by_cases h : 512 ≤ a.val * 64 + k.val
  · rw [if_pos h, decide_eq_true h]; rfl
  · rw [if_neg h, decide_eq_false h]; exact ofBits_neg_inf

theorem rowMax_at (S : FVec Ideal S2x16x128x64x576 .f32) (b : Fin 2) (h : Fin 16) (a : Fin 128) (i : Fin 64) :
    Host.reduce FloatOps.maximumf S (constant S_ .f32 0xFF800000#32) reducesTo_S2x16x128x64x576_S2x16x128x64_d4 h_S_ (ix4 b h a i) =
      Finset.univ.fold max (Ideal.ofBits FTy.f32 4286578688#32) fun k => S (ix5 b h a i k) := by
  pointwise

theorem expSub_at (S : FVec Ideal S2x16x128x64x576 .f32) (R : FVec Ideal S2x16x128x64 .f32) (b : Fin 2) (h : Fin 16) (a : Fin 128)
    (i : Fin 64) (k : Fin 576) :
    Host.exp (subf S (broadcastInDim S2x16x128x64x576 ![0, 1, 2, 3, 4] bcast_S2x16x128x64x1_S2x16x128x64x576_0_1_2_3_4
        (broadcastInDim S2x16x128x64x1 ![0, 1, 2, 3] bcast_S2x16x128x64_S2x16x128x64x1_0_1_2_3
          (maximumf (broadcastInDim S2x16x128x64 ![] bcast_S_S2x16x128x64 (constant S_ .f32 0xFF800000#32)) R)))) (ix5 b h a i k) =
      Ideal.exp (S (ix5 b h a i k) - max (Ideal.ofBits FTy.f32 4286578688#32) (R (ix4 b h a i))) := by
  pointwise

theorem expRow_at (S : FVec Ideal S2x16x128x64x576 .f32) (b : Fin 2) (h : Fin 16) (a : Fin 128) (i : Fin 64) (k : Fin 576) :
    expRow S (ix5 b h a i k) = Ideal.exp (S (ix5 b h a i k) - Finset.univ.fold max ⊥ fun k => S (ix5 b h a i k)) := by
  unfold expRow
  rw [expSub_at, rowMax_at, ofBits_neg_inf, max_eq_right bot_le]

theorem attend_at (S : FVec Ideal S2x16x128x64x576 .f32) (V : FVec Ideal S2x16x128x576x128 .f32) (b : Fin 2) (h : Fin 16) (a : Fin 128)
    (i : Fin 64) (d : Fin 128) :
    attend S V (ix5 b h a i d) =
      ∑ k, Ideal.div (expRow S (ix5 b h a i k)) (∑ k, expRow S (ix5 b h a i k)) * V (ix5 b h a k d) := by
  unfold attend
  generalize expRow S = E
  pointwise

theorem joined_at (O : FVec Ideal S2x16x128x64x128 .f32) (n : Fin 16384) (j : Fin 2048) :
    joined O (ix2 n j) = O (ix5 ⟨n.val / 8192, by omega⟩ ⟨j.val / 128, by omega⟩ ⟨n.val % 8192 / 64, by omega⟩
      ⟨n.val % 8192 % 64, by omega⟩ ⟨j.val % 128, by omega⟩) := by
  unfold joined
  pointwise

theorem gather_band (x : S2x16x8704x128.Idx → EReal) (idx : IVec S128x576x1 32) (b : Fin 2) (h : Fin 16) (a : Fin 128) (k : Fin 576)
    (d : Fin 128) :
    Host.gather gather_S2x16x8704x128_S128x576x1_S2x16x128x576x128_014_2_n_n_2_2_2161128 x idx (ix5 b h a k d) =
      x (ix4 b h ⟨min (idx (ix3 a k 0)).toInt.toNat 8703, by omega⟩ d) := by
  have hno : ∀ z : Fin 4, z ≠ 2 → z ∉ gather_S2x16x8704x128_S128x576x1_S2x16x128x576x128_014_2_n_n_2_2_2161128.startIndexMap :=
    fun z hz hm => hz (List.mem_singleton.mp hm)
  unfold Host.gather
  congr 1
  funext z
  refine Fin.ext ?_
  show gather_S2x16x8704x128_S128x576x1_S2x16x128x576x128_014_2_n_n_2_2_2161128.start (ix5 b h a k d) idx z +
    gather_S2x16x8704x128_S128x576x1_S2x16x128x576x128_014_2_n_n_2_2_2161128.batchCoord (ix5 b h a k d) z +
    gather_S2x16x8704x128_S128x576x1_S2x16x128x576x128_014_2_n_n_2_2_2161128.offCoord (ix5 b h a k d) z = _
  rw [GatherDims.batchCoord_eq_zero _ _ _ List.not_mem_nil, Nat.add_zero]
  have hz : z = 0 ∨ z = 1 ∨ z = 2 ∨ z = 3 := by
    match z with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases hz with rfl | rfl | rfl | rfl
  · unfold GatherDims.start
    rw [dif_neg (hno 0 (by decide)), Nat.zero_add]
    rfl
  · unfold GatherDims.start
    rw [dif_neg (hno 1 (by decide)), Nat.zero_add]
    rfl
  · rw [GatherDims.offCoord_eq_zero _ _ _ (fun h => ((GatherDims.mem_sKept _ _).mp h).1 (List.mem_singleton.mpr rfl)), Nat.add_zero]
    unfold GatherDims.start
    rw [dif_pos (show (2 : Fin 4) ∈ gather_S2x16x8704x128_S128x576x1_S2x16x128x576x128_014_2_n_n_2_2_2161128.startIndexMap from
      List.mem_singleton.mpr rfl)]
    have hsi : gather_S2x16x8704x128_S128x576x1_S2x16x128x576x128_014_2_n_n_2_2_2161128.siIdx (ix5 b h a k d)
        ⟨List.idxOf (2 : Fin 4) gather_S2x16x8704x128_S128x576x1_S2x16x128x576x128_014_2_n_n_2_2_2161128.startIndexMap,
          List.idxOf_lt_length_iff.2 (List.mem_singleton.mpr rfl)⟩ = ix3 a k 0 := by
      funext w; refine Fin.ext ?_
      match w with
      | ⟨0, _⟩ => rfl
      | ⟨1, _⟩ => rfl
      | ⟨2, _⟩ => rfl
    rw [hsi]
    rfl
  · unfold GatherDims.start
    rw [dif_neg (hno 3 (by decide)), Nat.zero_add]
    rfl

theorem gather_rel (x : S16x513.Idx → EReal) (idx : IVec S64x576x1 32) (h : Fin 16) (i : Fin 64) (k : Fin 576) :
    Host.gather gather_S16x513_S64x576x1_S16x64x576_0_1_n_n_1_2_161 x idx (ix3 h i k) =
      x (ix2 h ⟨min (idx (ix3 i k 0)).toInt.toNat 512, by omega⟩) := by
  unfold Host.gather
  congr 1
  funext z
  refine Fin.ext ?_
  show gather_S16x513_S64x576x1_S16x64x576_0_1_n_n_1_2_161.start (ix3 h i k) idx z +
    gather_S16x513_S64x576x1_S16x64x576_0_1_n_n_1_2_161.batchCoord (ix3 h i k) z +
    gather_S16x513_S64x576x1_S16x64x576_0_1_n_n_1_2_161.offCoord (ix3 h i k) z = _
  rw [GatherDims.batchCoord_eq_zero _ _ _ List.not_mem_nil, Nat.add_zero]
  have hz : z = 0 ∨ z = 1 := by
    match z with
    | ⟨0, _⟩ => exact Or.inl rfl
    | ⟨1, _⟩ => exact Or.inr rfl
  rcases hz with rfl | rfl
  · unfold GatherDims.start
    rw [dif_neg (show (0 : Fin 2) ∉ gather_S16x513_S64x576x1_S16x64x576_0_1_n_n_1_2_161.startIndexMap from
      fun hm => absurd (List.mem_singleton.mp hm) (by decide)), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 2) ∈ gather_S16x513_S64x576x1_S16x64x576_0_1_n_n_1_2_161.startIndexMap from List.mem_singleton.mpr rfl)]
    have hsi : gather_S16x513_S64x576x1_S16x64x576_0_1_n_n_1_2_161.siIdx (ix3 h i k)
        ⟨List.idxOf (1 : Fin 2) gather_S16x513_S64x576x1_S16x64x576_0_1_n_n_1_2_161.startIndexMap,
          List.idxOf_lt_length_iff.2 (List.mem_singleton.mpr rfl)⟩ = ix3 i k 0 := by
      funext w; refine Fin.ext ?_
      match w with
      | ⟨0, _⟩ => rfl
      | ⟨1, _⟩ => rfl
      | ⟨2, _⟩ => rfl
    rw [hsi]
    rfl

theorem pad_at (X : FVec Ideal S2x16x8192x128 .f32) (z : FVec Ideal S_ .f32) (b : Fin 2) (h : Fin 16) (r : Fin 8704) (d : Fin 128) :
    pad S2x16x8704x128 ![0, 0, 512, 0] ![0, 0, 0, 0] ![0, 0, 0, 0] X z pads_S2x16x8192x128_S2x16x8704x128_000_000_51200_000 h_S_
      (ix4 b h r d) = if hh : 512 ≤ r.val ∧ r.val - 512 < 8192 then X (ix4 b h ⟨r.val - 512, hh.2⟩ d) else z (Shape.Idx.first h_S_) := by
  pointwise

/-- A key's row of a block, where it isn't padding. -/
theorem banded_at (X : FVec Ideal S2x16x8192x128 .f32) (b : Fin 2) (h : Fin 16) (a : Fin 128) (k : Fin 576) (d : Fin 128)
    (hk : 512 ≤ a.val * 64 + k.val) :
    banded X (ix5 b h a k d) = X (ix4 b h ⟨a.val * 64 + k.val - 512, by omega⟩ d) := by
  have hn : min (bandIx (ix3 a k 0)).toInt.toNat 8703 = a.val * 64 + k.val := by
    rw [bandIx_at]
    have hl : a.val * 64 + k.val < 8704 := by omega
    generalize a.val * 64 + k.val = n at hl
    rw [BitVec.toInt_ofNat', Int.bmod_def]
    omega
  unfold banded
  rw [gather_band, pad_at, dif_pos ⟨hk.trans_eq hn.symm, lt_of_eq_of_lt (congrArg (· - 512) hn) (by omega)⟩]
  refine congrArg (fun s => X (ix4 b h s d)) (Fin.ext ?_)
  show min (bandIx (ix3 a k 0)).toInt.toNat 8703 - 512 = _
  rw [hn]

theorem biasBand_at (B : FVec Ideal S16x513 .f32) (h : Fin 16) (i : Fin 64) (k : Fin 576) :
    biasBand B (ix3 h i k) = B (ix2 h ⟨min 512 (768 + i.val - k.val), by omega⟩) := by
  unfold biasBand
  rw [gather_rel]
  exact congrArg (fun s => B (ix2 h s)) (Fin.ext (biasIx_at i k))

/-- The scores of a query over its block's keys. -/
def refScores (P : FVec Ideal S112x16384x128 .bf16) (B : FVec Ideal S16x513 .f32) (wq wk : FVec Ideal S128 .f32)
    (b : Fin 2) (h : Fin 16) (a : Fin 128) (i : Fin 64) (k : Fin 576) : EReal :=
  if hk : 512 ≤ a.val * 64 + k.val then
    (∑ d, normRow (fun d => P (ix3 ⟨h.val, by omega⟩ ⟨b.val * 8192 + (a.val * 64 + i.val), by omega⟩ d)) (fun d => wq (ix1 d)) d *
      normRow (fun d => P (ix3 ⟨16 + h.val, by omega⟩ ⟨b.val * 8192 + (a.val * 64 + k.val - 512), by omega⟩ d))
        (fun d => wk (ix1 d)) d) * Ideal.ofBits .f32 0x3DB504F3#32 + B (ix2 h ⟨min 512 (768 + i.val - k.val), by omega⟩)
  else ⊥

theorem refScores_at (P : FVec Ideal S112x16384x128 .bf16) (B : FVec Ideal S16x513 .f32) (wq wk : FVec Ideal S128 .f32)
    (b : Fin 2) (h : Fin 16) (a : Fin 128) (i : Fin 64) (k : Fin 576) :
    scores (normed (headsQ P) wq) (banded (normed (headsK P) wk)) (biasBand B) (ix5 b h a i k) = refScores P B wq wk b h a i k := by
  rw [scores_at]
  unfold refScores
  by_cases hk : 512 ≤ a.val * 64 + k.val
  · rw [if_pos hk, dif_pos hk, biasBand_at]
    simp only [banded_at _ b h a k _ hk, normed_at, headsQ_at, headsK_at]
  · rw [if_neg hk, dif_neg hk]

/-- The reference's result at a row and a column. -/
theorem ref_at (m : (ℓ : Loc nD τ sig) → Buf (Elt Ideal) ℓ) (c : Dev nD) (n : Fin 16384) (j : Fin 2048)
    (P : FVec Ideal S112x16384x128 .bf16) (B : FVec Ideal S16x513 .f32) (wq wk : FVec Ideal S128 .f32)
    (hP : m ((c.tc : Thread nD τ).loc main_arg0) = P) (hB : m ((c.tc : Thread nD τ).loc main_arg1) = B)
    (hq : m ((c.tc : Thread nD τ).loc main_arg2) = wq) (hk : m ((c.tc : Thread nD τ).loc main_arg3) = wk) :
    Value.res_main_v109 m c (ix2 n j) =
      ∑ k, Ideal.div (Ideal.exp (refScores P B wq wk ⟨n.val / 8192, by omega⟩ ⟨j.val / 128, by omega⟩ ⟨n.val % 8192 / 64, by omega⟩
          ⟨n.val % 8192 % 64, by omega⟩ k - Finset.univ.fold max ⊥ (refScores P B wq wk ⟨n.val / 8192, by omega⟩
          ⟨j.val / 128, by omega⟩ ⟨n.val % 8192 / 64, by omega⟩ ⟨n.val % 8192 % 64, by omega⟩)))
        (den (refScores P B wq wk ⟨n.val / 8192, by omega⟩ ⟨j.val / 128, by omega⟩ ⟨n.val % 8192 / 64, by omega⟩
          ⟨n.val % 8192 % 64, by omega⟩)) *
        banded (headsV P) (ix5 ⟨n.val / 8192, by omega⟩ ⟨j.val / 128, by omega⟩ ⟨n.val % 8192 / 64, by omega⟩ k
          ⟨j.val % 128, by omega⟩) := by
  rw [res_stages, hP, hB, hq, hk, joined_at, attend_at]
  simp only [expRow_at, refScores_at]
  rfl

end Cert.BandRef

end
-- ==== Proof.Equation.lean ====
/- One row of the kernel's output and the same row of the reference: the kernel's window of 640 keys, masked, carries the
   reference's band of 576 keys, and its quotient of sums is the reference's sum of quotients. -/
module

public import proofs.«01_k».proof.Proof.Body
public import proofs.«01_k».proof.Proof.Bias
public import proofs.«01_k».proof.Proof.Ref

@[expose] public section

set_option maxRecDepth 16384

noncomputable section

namespace Cert.Band

open Idealize.ShloMosaic Idealize.ShloMosaic.TcCoe Idealize.SL.Sem
open Cert.KernelIdeal Cert.KernelIdeal.Gen Cert.BandRef

/-- The projection at equal blocks and rows. -/
theorem proj_congr (P : FVec Ideal S112x16384x128 .bf16) {e e' : Fin 112} {n n' : Fin 16384} (he : e.val = e'.val) (hn : n.val = n'.val)
    (d : Fin 128) : P (ix3 e n d) = P (ix3 e' n' d) := by
  rw [Fin.ext he, Fin.ext hn]

/-- A row of the previous and the current tile, put one after the other, is a row of the sequence. -/
theorem cat_band (P : FVec Ideal S112x16384x128 .bf16) (e : Fin 112) (y1 y2 : Fin 512 → Fin 128 → EReal) (b : Fin 2) (tt : Fin 16)
    (h1 : ∀ r d, y1 r d = P (ix3 e ⟨b.val * 8192 + (tt.val - 1) * 512 + r.val, by omega⟩ d))
    (h2 : ∀ r d, y2 r d = P (ix3 e ⟨b.val * 8192 + tt.val * 512 + r.val, by omega⟩ d))
    (u : Fin 1024) (hv : 512 ≤ tt.val * 512 + u.val) (d : Fin 128) (n : Fin 16384)
    (hn : n.val = b.val * 8192 + (tt.val * 512 + u.val - 512)) :
    catRow y1 y2 u d = P (ix3 e n d) := by
  by_cases h : u.val < 512
  · rw [catRow_lo _ _ _ _ h, h1]
    exact proj_congr P rfl (by show b.val * 8192 + (tt.val - 1) * 512 + u.val = n.val; omega) d
  · rw [catRow_hi _ _ _ _ h, h2]
    exact proj_congr P rfl (by show b.val * 8192 + tt.val * 512 + (u.val - 512) = n.val; omega) d

/-- The scale, which the kernel puts into the query's weight, taken out of the products. -/
theorem norm_scale (x w y v : Fin 128 → EReal) :
    ∑ d, normRow x (fun d => w d * Ideal.ofBits .f32 0x3DB504F3#32) d * normRow y v d =
      (∑ d, normRow x w d * normRow y v d) * Ideal.ofBits .f32 0x3DB504F3#32 :=
  scale_out (fun d => x d * invRms x) w (normRow y v)

theorem normRow_real (x w : Fin 128 → EReal) (d : Fin 128) (hw : IsReal (w d)) : IsReal (normRow x w d) :=
  (norm_real x d).mul hw

section row

variable (P : FVec Ideal S112x16384x128 .bf16) (B : FVec Ideal S16x513 .f32) (wq wk : FVec Ideal S128 .f32)
  (x0 x1 x2 x3 x4 : Vec Ideal S2x512x128 .bf16) (x5 : Vec Ideal S2x128x640 .f32) (x6 x7 : Vec Ideal S1x128 .f32)
  (b : Fin 2) (g : Fin 8) (tt : Fin 16)

/-- What the blocks of a grid point hold: batch `b`, head pair `g`, tile `tt`. -/
structure Blocks : Prop where
  h0 : ∀ hd r d, x0 (ix3 hd r d) = P (ix3 ⟨g.val * 2 + hd.val, by omega⟩ ⟨b.val * 8192 + tt.val * 512 + r.val, by omega⟩ d)
  h1 : ∀ hd r d, x1 (ix3 hd r d) = P (ix3 ⟨16 + (g.val * 2 + hd.val), by omega⟩ ⟨b.val * 8192 + (tt.val - 1) * 512 + r.val, by omega⟩ d)
  h2 : ∀ hd r d, x2 (ix3 hd r d) = P (ix3 ⟨16 + (g.val * 2 + hd.val), by omega⟩ ⟨b.val * 8192 + tt.val * 512 + r.val, by omega⟩ d)
  h3 : ∀ hd r d, x3 (ix3 hd r d) = P (ix3 ⟨32 + (g.val * 2 + hd.val), by omega⟩ ⟨b.val * 8192 + (tt.val - 1) * 512 + r.val, by omega⟩ d)
  h4 : ∀ hd r d, x4 (ix3 hd r d) = P (ix3 ⟨32 + (g.val * 2 + hd.val), by omega⟩ ⟨b.val * 8192 + tt.val * 512 + r.val, by omega⟩ d)
  h5 : ∀ hd q k, x5 (ix3 hd q k) = biasAt B ⟨g.val * 2 + hd.val, by omega⟩ q.val k.val
  h6 : ∀ d, x6 (ix2 0 d) = wq (ix1 d) * Ideal.ofBits .f32 0x3DB504F3#32
  h7 : ∀ d, x7 (ix2 0 d) = wk (ix1 d)

variable (H : Blocks P B wq wk x0 x1 x2 x3 x4 x5 x6 x7 b g tt) (hd : Fin 2) (r : Fin 512) (d : Fin 128)

/-- The reference's scores of row `r` of the tile. -/
def bandScores : Fin 576 → EReal :=
  refScores P B wq wk b ⟨g.val * 2 + hd.val, by omega⟩ ⟨tt.val * 8 + r.val / 64, by omega⟩ ⟨r.val % 64, by omega⟩

/-- The reference's values of row `r` of the tile. -/
def bandVals : Fin 576 → EReal := fun k =>
  banded (headsV P) (ix5 b ⟨g.val * 2 + hd.val, by omega⟩ ⟨tt.val * 8 + r.val / 64, by omega⟩ k d)

theorem firstKey_band (k : ℕ) : firstKey tt.val (r.val / 128) ≤ r.val % 128 / 64 * 64 + k ↔ 512 ≤ (tt.val * 8 + r.val / 64) * 64 + k := by
  unfold firstKey
  split_ifs <;> omega

include H in
theorem scores_band (k : Fin 576) :
    rowScores x0 x1 x2 x5 x6 x7 tt.val hd r ⟨r.val % 128 / 64 * 64 + k.val, by omega⟩ = bandScores P B wq wk b g tt hd r k := by
  unfold rowScores maskRow bandScores refScores
  by_cases hk : 512 ≤ (tt.val * 8 + r.val / 64) * 64 + k.val
  · rw [if_pos ((firstKey_band tt r k.val).mpr hk), dif_pos hk]
    beta_reduce
    rw [H.h5]
    refine congrArg₂ (· + ·) ?_ ?_
    · have hq : (fun d => x0 (ix3 hd r d)) = fun d => P (ix3 ⟨g.val * 2 + hd.val, by omega⟩
          ⟨b.val * 8192 + ((tt.val * 8 + r.val / 64) * 64 + r.val % 64), by omega⟩ d) := by
        funext d
        rw [H.h0]
        exact proj_congr P rfl (by show b.val * 8192 + tt.val * 512 + r.val = b.val * 8192 + ((tt.val * 8 + r.val / 64) * 64 + r.val % 64); omega) d
      have hc : catRow (fun r d => x1 (ix3 hd r d)) (fun r d => x2 (ix3 hd r d))
          ⟨r.val / 128 * 128 + (r.val % 128 / 64 * 64 + k.val), by omega⟩ = fun d => P (ix3 ⟨16 + (g.val * 2 + hd.val), by omega⟩
            ⟨b.val * 8192 + ((tt.val * 8 + r.val / 64) * 64 + k.val - 512), by omega⟩ d) := by
        funext d
        refine cat_band P _ _ _ b tt (H.h1 hd) (H.h2 hd) _ ?_ d _ ?_
        · show 512 ≤ tt.val * 512 + (r.val / 128 * 128 + (r.val % 128 / 64 * 64 + k.val)); omega
        · show b.val * 8192 + ((tt.val * 8 + r.val / 64) * 64 + k.val - 512) =
            b.val * 8192 + (tt.val * 512 + (r.val / 128 * 128 + (r.val % 128 / 64 * 64 + k.val)) - 512)
          omega
      rw [hq, hc, show (fun d => x7 (ix2 0 d)) = fun d => wk (ix1 d) from funext H.h7,
        show (fun d => x6 (ix2 0 d)) = fun d => wq (ix1 d) * Ideal.ofBits .f32 0x3DB504F3#32 from funext H.h6]
      exact norm_scale _ _ _ _
    · unfold biasAt
      dsimp only
      rw [if_pos (by omega)]
      refine congrArg (fun z => B (ix2 _ z)) (Fin.ext ?_)
      show min 512 (768 + r.val % 128 - (r.val % 128 / 64 * 64 + k.val)) = min 512 (768 + r.val % 64 - k.val)
      omega
  · rw [if_neg (fun h => hk ((firstKey_band tt r k.val).mp h)), dif_neg hk]

include H in
theorem scores_out (j : Fin 640) (hj : j.val < r.val % 128 / 64 * 64 ∨ r.val % 128 / 64 * 64 + 576 ≤ j.val) :
    rowScores x0 x1 x2 x5 x6 x7 tt.val hd r j = ⊥ := by
  unfold rowScores maskRow
  split_ifs
  · beta_reduce
    rw [H.h5]
    unfold biasAt
    dsimp only
    rw [if_neg (by omega), EReal.add_bot]
  · rfl

theorem band_masked (k : Fin 576) (hk : ¬ 512 ≤ (tt.val * 8 + r.val / 64) * 64 + k.val) : bandScores P B wq wk b g tt hd r k = ⊥ := by
  unfold bandScores refScores
  rw [dif_neg hk]

include H in
theorem vals_band (k : Fin 576) (hk : bandScores P B wq wk b g tt hd r k ≠ ⊥) :
    rowVals x3 x4 hd r d ⟨r.val % 128 / 64 * 64 + k.val, by omega⟩ = bandVals P b g tt hd r d k := by
  have hv : 512 ≤ (tt.val * 8 + r.val / 64) * 64 + k.val := by
    by_contra h
    exact hk (band_masked P B wq wk b g tt hd r k h)
  unfold rowVals bandVals
  rw [banded_at (headsV P) b ⟨g.val * 2 + hd.val, by omega⟩ ⟨tt.val * 8 + r.val / 64, by omega⟩ k d hv, headsV_at]
  refine cat_band P _ _ _ b tt (H.h3 hd) (H.h4 hd) _ ?_ d _ ?_
  · show 512 ≤ tt.val * 512 + (r.val / 128 * 128 + (r.val % 128 / 64 * 64 + k.val)); omega
  · show b.val * 8192 + ((tt.val * 8 + r.val / 64) * 64 + k.val - 512) =
      b.val * 8192 + (tt.val * 512 + (r.val / 128 * 128 + (r.val % 128 / 64 * 64 + k.val)) - 512)
    omega

/-- With finite weights a score is real, or masked. -/
theorem band_real (hB : ∀ i, IsReal (B i)) (hq : ∀ d, IsReal (wq d)) (hw : ∀ d, IsReal (wk d)) (k : Fin 576)
    (hk : 512 ≤ (tt.val * 8 + r.val / 64) * 64 + k.val) : IsReal (bandScores P B wq wk b g tt hd r k) := by
  unfold bandScores refScores
  rw [dif_pos hk]
  refine IsReal.add (IsReal.mul (isReal_sum _ fun d => ?_) ?_) (hB _)
  · exact (normRow_real _ _ d (hq _)).mul (normRow_real _ _ d (hw _))
  · obtain ⟨e, _, hE⟩ := ofBits_scale
    exact ⟨e, hE⟩

include H in
/-- The kernel's row is the reference's. -/
theorem row_eq (hB : ∀ i, IsReal (B i)) (hq : ∀ d, IsReal (wq d)) (hw : ∀ d, IsReal (wk d)) :
    rowOut x0 x1 x2 x3 x4 x5 x6 x7 tt.val hd r d =
      ∑ k, Ideal.div (Ideal.exp (bandScores P B wq wk b g tt hd r k - Finset.univ.fold max ⊥ (bandScores P B wq wk b g tt hd r)))
        (den (bandScores P B wq wk b g tt hd r)) * bandVals P b g tt hd r d k := by
  have ho : r.val % 128 / 64 * 64 ≤ 64 := by omega
  have hS := fun (k : Fin 576) (h : r.val % 128 / 64 * 64 + k.val < 640) => scores_band P B wq wk x0 x1 x2 x3 x4 x5 x6 x7 b g tt H hd r k
  have hO := scores_out P B wq wk x0 x1 x2 x3 x4 x5 x6 x7 b g tt H hd r
  have hV := fun (k : Fin 576) (h : r.val % 128 / 64 * 64 + k.val < 640) => vals_band P B wq wk x0 x1 x2 x3 x4 x5 x6 x7 b g tt H hd r d k
  unfold rowOut
  rw [den_window _ _ _ ho hS hO, num_window _ _ _ _ _ ho hS hV hO]
  refine normalise _ _ (fun k => ?_) ⟨512 + r.val % 64, by omega⟩ ?_
  · by_cases hk : 512 ≤ (tt.val * 8 + r.val / 64) * 64 + k.val
    · exact Or.inr (band_real P B wq wk b g tt hd r hB hq hw k hk)
    · exact Or.inl (band_masked P B wq wk b g tt hd r k hk)
  · exact band_real P B wq wk b g tt hd r hB hq hw _ (by show 512 ≤ (tt.val * 8 + r.val / 64) * 64 + (512 + r.val % 64); omega)

end row

end Cert.Band

end
-- ==== Proof.Blocks.lean ====
/- The blocks of a grid point, read from the arrays; and the kernel's result array. -/
module

public import proofs.«01_k».proof.Proof.Equation

@[expose] public section

set_option maxRecDepth 16384

noncomputable section

namespace Cert.Band

open Idealize.ShloMosaic Idealize.ShloMosaic.TcCoe Idealize.SL.Sem
open Cert.KernelIdeal Cert.KernelIdeal.Gen Cert.BandRef

variable (m : (ℓ : Loc nD τ sig) → Buf (Elt Ideal) ℓ) (c : Dev nD)

/-- The windows' index maps: point `t` is batch `t/128`, head pair `t/16 % 8`, tile `t % 16`. -/
theorem idx : ∀ t : Fin cfg0.N,
    win0_0.index t = ![t.val / 16 % 8, t.val / 128 * 16 + t.val % 16, 0] ∧
    win0_1.index t = ![8 + t.val / 16 % 8, t.val / 128 * 16 + (t.val % 16 - 1), 0] ∧
    win0_2.index t = ![8 + t.val / 16 % 8, t.val / 128 * 16 + t.val % 16, 0] ∧
    win0_3.index t = ![16 + t.val / 16 % 8, t.val / 128 * 16 + (t.val % 16 - 1), 0] ∧
    win0_4.index t = ![16 + t.val / 16 % 8, t.val / 128 * 16 + t.val % 16, 0] ∧
    win0_5.index t = ![t.val / 16 % 8, 0, 0] ∧ win0_6.index t = ![0, 0] ∧ win0_7.index t = ![0, 0] ∧
    win0_8.index t = ![t.val / 128 * 16 + t.val % 16, t.val / 16 % 8] :=
  (by decide +kernel : ∀ t : Fin grid0.N, _)

theorem tile_coord : ∀ t : Fin cfg0.N, (grid0.coords t 1).val = t.val % 16 :=
  (by decide +kernel : ∀ t : Fin grid0.N, _)

theorem points (t : Fin cfg0.N) : t.val < 256 := by
  have : cfg0.N = 256 := N_0
  omega

theorem read_0 (t : Fin cfg0.N) (hd : Fin 2) (r : Fin 512) (d : Fin 128) :
    (iblk m c 0 t : Vec Ideal S2x512x128 .bf16) (ix3 hd r d) = argP m c (ix3 ⟨t.val / 16 % 8 * 2 + hd.val, by have := points t; omega⟩
      ⟨t.val / 128 * 8192 + t.val % 16 * 512 + r.val, by have := points t; omega⟩ d) := by
  have ht := points t
  unfold argP
  rw [← V_main_arg0 m c]
  blk_ext [iblk, idx t]

theorem read_1 (t : Fin cfg0.N) (hd : Fin 2) (r : Fin 512) (d : Fin 128) :
    (iblk m c 1 t : Vec Ideal S2x512x128 .bf16) (ix3 hd r d) = argP m c (ix3 ⟨16 + (t.val / 16 % 8 * 2 + hd.val), by have := points t; omega⟩
      ⟨t.val / 128 * 8192 + (t.val % 16 - 1) * 512 + r.val, by have := points t; omega⟩ d) := by
  have ht := points t
  unfold argP
  rw [← V_main_arg0 m c]
  blk_ext [iblk, idx t]

theorem read_2 (t : Fin cfg0.N) (hd : Fin 2) (r : Fin 512) (d : Fin 128) :
    (iblk m c 2 t : Vec Ideal S2x512x128 .bf16) (ix3 hd r d) = argP m c (ix3 ⟨16 + (t.val / 16 % 8 * 2 + hd.val), by have := points t; omega⟩
      ⟨t.val / 128 * 8192 + t.val % 16 * 512 + r.val, by have := points t; omega⟩ d) := by
  have ht := points t
  unfold argP
  rw [← V_main_arg0 m c]
  blk_ext [iblk, idx t]

theorem read_3 (t : Fin cfg0.N) (hd : Fin 2) (r : Fin 512) (d : Fin 128) :
    (iblk m c 3 t : Vec Ideal S2x512x128 .bf16) (ix3 hd r d) = argP m c (ix3 ⟨32 + (t.val / 16 % 8 * 2 + hd.val), by have := points t; omega⟩
      ⟨t.val / 128 * 8192 + (t.val % 16 - 1) * 512 + r.val, by have := points t; omega⟩ d) := by
  have ht := points t
  unfold argP
  rw [← V_main_arg0 m c]
  blk_ext [iblk, idx t]

theorem read_4 (t : Fin cfg0.N) (hd : Fin 2) (r : Fin 512) (d : Fin 128) :
    (iblk m c 4 t : Vec Ideal S2x512x128 .bf16) (ix3 hd r d) = argP m c (ix3 ⟨32 + (t.val / 16 % 8 * 2 + hd.val), by have := points t; omega⟩
      ⟨t.val / 128 * 8192 + t.val % 16 * 512 + r.val, by have := points t; omega⟩ d) := by
  have ht := points t
  unfold argP
  rw [← V_main_arg0 m c]
  blk_ext [iblk, idx t]

theorem read_5 (t : Fin cfg0.N) (hd : Fin 2) (q : Fin 128) (k : Fin 640) :
    (iblk m c 5 t : Vec Ideal S2x128x640 .f32) (ix3 hd q k) = biasAt (argB m c) ⟨t.val / 16 % 8 * 2 + hd.val, by omega⟩ q.val k.val := by
  rw [← bias_at]
  blk_ext [iblk, idx t]

theorem read_6 (t : Fin cfg0.N) (d : Fin 128) :
    (iblk m c 6 t : Vec Ideal S1x128 .f32) (ix2 0 d) = argQ m c d * Ideal.ofBits .f32 0x3DB504F3#32 := by
  rw [← qw_at]
  blk_ext [iblk, idx t]

theorem read_7 (t : Fin cfg0.N) (d : Fin 128) : (iblk m c 7 t : Vec Ideal S1x128 .f32) (ix2 0 d) = argK m c d := by
  rw [← kw_at]
  blk_ext [iblk, idx t]

theorem blocks (t : Fin cfg0.N) :
    Blocks (argP m c) (argB m c) (m ((c : Thread nD τ).loc main_arg2)) (m ((c : Thread nD τ).loc main_arg3))
      (iblk m c 0 t) (iblk m c 1 t) (iblk m c 2 t) (iblk m c 3 t) (iblk m c 4 t) (iblk m c 5 t) (iblk m c 6 t) (iblk m c 7 t)
      ⟨t.val / 128, by have := points t; omega⟩ ⟨t.val / 16 % 8, by omega⟩ ⟨t.val % 16, by omega⟩ :=
  ⟨read_0 m c t, read_1 m c t, read_2 m c t, read_3 m c t, read_4 m c t, read_5 m c t, read_6 m c t, read_7 m c t⟩

/-- The reference's row and column, from the arrays. -/
def bandAt (b : Fin 2) (g : Fin 8) (tt : Fin 16) (hd : Fin 2) (r : Fin 512) (d : Fin 128) : EReal :=
  ∑ k, Ideal.div (Ideal.exp
      (bandScores (argP m c) (argB m c) (m ((c : Thread nD τ).loc main_arg2)) (m ((c : Thread nD τ).loc main_arg3)) b g tt hd r k -
        Finset.univ.fold max ⊥ (bandScores (argP m c) (argB m c) (m ((c : Thread nD τ).loc main_arg2))
          (m ((c : Thread nD τ).loc main_arg3)) b g tt hd r)))
    (den (bandScores (argP m c) (argB m c) (m ((c : Thread nD τ).loc main_arg2)) (m ((c : Thread nD τ).loc main_arg3)) b g tt hd r)) *
    bandVals (argP m c) b g tt hd r d k

def bandOut (n : Fin 16384) (j : Fin 2048) : EReal :=
  bandAt m c ⟨n.val / 8192, by omega⟩ ⟨j.val / 256, by omega⟩ ⟨n.val % 8192 / 512, by omega⟩ ⟨j.val / 128 % 2, by omega⟩
    ⟨n.val % 512, by omega⟩ ⟨j.val % 128, by omega⟩

theorem bandOut_eq (n : Fin 16384) (j : Fin 2048) (b : Fin 2) (g : Fin 8) (tt : Fin 16) (hd : Fin 2) (r : Fin 512) (d : Fin 128)
    (hn : n.val = b.val * 8192 + tt.val * 512 + r.val) (hj : j.val = g.val * 256 + hd.val * 128 + d.val) :
    bandOut m c n j = bandAt m c b g tt hd r d := by
  have e0 : (⟨n.val / 8192, by omega⟩ : Fin 2) = b := Fin.ext (by dsimp only; omega)
  have e1 : (⟨j.val / 256, by omega⟩ : Fin 8) = g := Fin.ext (by dsimp only; omega)
  have e2 : (⟨n.val % 8192 / 512, by omega⟩ : Fin 16) = tt := Fin.ext (by dsimp only; omega)
  have e3 : (⟨j.val / 128 % 2, by omega⟩ : Fin 2) = hd := Fin.ext (by dsimp only; omega)
  have e4 : (⟨n.val % 512, by omega⟩ : Fin 512) = r := Fin.ext (by dsimp only; omega)
  have e5 : (⟨j.val % 128, by omega⟩ : Fin 128) = d := Fin.ext (by dsimp only; omega)
  unfold bandOut
  rw [e0, e1, e2, e3, e4, e5]

section finite

variable (hB : ∀ i, IsReal (argB m c i)) (hq : ∀ d, IsReal ((m ((c : Thread nD τ).loc main_arg2) : FVec Ideal S128 .f32) d))
  (hw : ∀ d, IsReal ((m ((c : Thread nD τ).loc main_arg3) : FVec Ideal S128 .f32) d))

include hB hq hw in
theorem point (t : Fin cfg0.N) (y : S512x256.Idx) (n : Fin 16384) (j : Fin 2048)
    (hn : n.val = (t.val / 128 * 16 + t.val % 16) * 512 + (y 0).val) (hj : j.val = t.val / 16 % 8 * 256 + (y 1).val) :
    out0_8 (F := Ideal) (grid0.coords t) (iblk m c 0 t) (iblk m c 1 t) (iblk m c 2 t) (iblk m c 3 t) (iblk m c 4 t) (iblk m c 5 t)
      (iblk m c 6 t) (iblk m c 7 t) y = bandOut m c n j := by
  have ht := points t
  have hy0 : (y 0).val < 512 := (y 0).isLt
  have hy1 : (y 1).val < 256 := (y 1).isLt
  rw [out_at _ _ _ _ _ _ _ _ _ ⟨t.val % 16, by omega⟩ (tile_coord t)]
  refine (row_eq _ _ _ _ _ _ _ _ _ _ _ _ _ _ _ (blocks m c t) _ _ _ hB hq hw).trans ?_
  refine (bandOut_eq m c n j _ _ _ _ _ _ ?_ ?_).symm
  · show n.val = t.val / 128 * 8192 + t.val % 16 * 512 + (y 0).val
    omega
  · show j.val = t.val / 16 % 8 * 256 + (y 1).val / 128 * 128 + (y 1).val % 128
    omega

include hB hq hw in
/-- The kernel's result array. -/
theorem final : (dats m 0 c).arrAt 8 cfg0.N = fun i : S16384x2048.Idx => bandOut m c (i 0) (i 1) := by
  refine (dats m 0 c).arrAt_eq_of_covers 8 _ (by decide +kernel) fun t _ y => ?_
  blk_simp
  rw [after0_8]
  refine point m c hB hq hw t y _ _ ?_ ?_
  · blk_simp [idx t]
  · blk_simp [idx t]

end finite

end Cert.Band

end
-- ==== Proof.Norm.lean ====
/- The first norm: each row divided by its root mean square, times the weight. -/
module

public import proofs.«01_k».proof.Proof.Gen.NormIdeal.Value
public import proofs.«01_k».proof.Proof.Gen.NormReferenceIdeal.Run
public import Idealize.ShloMosaic.Lib.Pipeline.ValueKit

@[expose] public section

set_option maxRecDepth 16384

noncomputable section

namespace Cert.FirstNorm

open Idealize.ShloMosaic Idealize.ShloMosaic.TcCoe Idealize.SL.Sem

/-- Entry `j` of the row `x`, normed and weighted by `w`. -/
def normAt (x : Fin 4096 → EReal) (w : EReal) (j : Fin 4096) : EReal :=
  x j * Ideal.rsqrt (Ideal.div (∑ k, x k * x k) (Ideal.ofBits .f32 0x45800000#32) + Ideal.ofBits .f32 0x358637BD#32) * w

namespace Ref

open Cert.NormReferenceIdeal Cert.NormReferenceIdeal.Gen

/-- The reference's value at row `n`, column `j`. -/
theorem at_ (X : FVec Ideal S2x8192x4096 .f32) (W : FVec Ideal S4096 .f32) (n : Fin 16384) (j : Fin 4096) :
    truncf .bf16 (shapeCast _ (mulf (mulf X (broadcastInDim S2x8192x4096 ![0, 1, 2] bcast_S2x8192x1_S2x8192x4096_0_1_2
      (Host.rsqrt (addf (Host.divf (broadcastInDim S2x8192x1 ![0, 1] bcast_S2x8192_S2x8192x1_0_1
        (Host.reduceAdd (mulf X X) (constant S_ .f32 0x00000000#32) reducesTo_S2x8192x4096_S2x8192_d2 h_S_))
        (broadcastInDim S2x8192x1 ![] bcast_S_S2x8192x1 (constant S_ .f32 0x45800000#32)))
        (broadcastInDim S2x8192x1 ![] bcast_S_S2x8192x1 (constant S_ .f32 0x358637BD#32))))))
      (broadcastInDim S2x8192x4096 ![0, 1, 2] bcast_S1x1x4096_S2x8192x4096_0_1_2 (broadcastInDim S1x1x4096 ![2] bcast_S4096_S1x1x4096_2 W)))
      shapeCasts_S2x8192x4096_S16384x4096) bitsLt_bf16_f32 (ix2 n j) =
      normAt (fun k => X (ix3 ⟨n.val / 8192, by omega⟩ ⟨n.val % 8192, by omega⟩ k)) (W (ix1 j)) j := by
  unfold normAt
  pointwise

end Ref

open Cert.NormIdeal Cert.NormIdeal.Gen

variable (m : (ℓ : Loc nD τ sig) → Buf (Elt Ideal) ℓ) (c : Dev nD)

theorem points (t : Fin cfg0.N) : t.val < 64 := by
  have : cfg0.N = 64 := N_0
  omega

theorem idx : ∀ t : Fin cfg0.N,
    win0_0.index t = ![t.val, 0] ∧ win0_1.index t = ![0, 0] ∧ win0_2.index t = ![t.val, 0] :=
  (by decide +kernel : ∀ t : Fin grid0.N, _)

/-- What a point computes from its blocks. -/
theorem body_at (x : Vec Ideal S256x4096 .f32) (w : Vec Ideal S1x4096 .f32) (r : Fin 256) (j : Fin 4096) :
    k0_pay1 x w (ix2 r j) = normAt (fun k => x (ix2 r k)) (w (ix2 0 j)) j := by
  unfold normAt
  pointwise [k0_pay1]

theorem rows_at (n : Fin 16384) (k : Fin 4096) :
    V m c main_v0 (ix2 n k) = (m ((c : Thread nD τ).loc main_arg0) : FVec Ideal S2x8192x4096 .f32) (ix3 ⟨n.val / 8192, by omega⟩ ⟨n.val % 8192, by omega⟩ k) := by
  entry_read
  pointwise

theorem weight_at (k : Fin 4096) :
    V m c main_v1 (ix2 0 k) = (m ((c : Thread nD τ).loc main_arg1) : FVec Ideal S4096 .f32) (ix1 k) := by
  entry_read
  pointwise

theorem xblock (t : Fin cfg0.N) (r : Fin 256) (k : Fin 4096) (n : Fin 16384) (hn : n.val = t.val * 256 + r.val) :
    (iblk m c 0 t : Vec Ideal S256x4096 .f32) (ix2 r k) =
      (m ((c : Thread nD τ).loc main_arg0) : FVec Ideal S2x8192x4096 .f32) (ix3 ⟨n.val / 8192, by omega⟩ ⟨n.val % 8192, by omega⟩ k) := by
  rw [← rows_at m c]
  blk_ext [iblk, idx t]

theorem wblock (t : Fin cfg0.N) (k : Fin 4096) :
    (iblk m c 1 t : Vec Ideal S1x4096 .f32) (ix2 0 k) = (m ((c : Thread nD τ).loc main_arg1) : FVec Ideal S4096 .f32) (ix1 k) := by
  rw [← weight_at m c]
  blk_ext [iblk, idx t]

/-- Row `n`, column `j` of the result. -/
def outAt (n : Fin 16384) (j : Fin 4096) : EReal :=
  normAt (fun k => (m ((c : Thread nD τ).loc main_arg0) : FVec Ideal S2x8192x4096 .f32) (ix3 ⟨n.val / 8192, by omega⟩ ⟨n.val % 8192, by omega⟩ k))
    ((m ((c : Thread nD τ).loc main_arg1) : FVec Ideal S4096 .f32) (ix1 j)) j

theorem point (t : Fin cfg0.N) (y : S256x4096.Idx) (n : Fin 16384) (j : Fin 4096) (hn : n.val = t.val * 256 + (y 0).val) (hj : j.val = (y 1).val) :
    k0_pay1 (F := Ideal) (iblk m c 0 t) (iblk m c 1 t) y = outAt m c n j := by
  obtain ⟨r, e, rfl⟩ : ∃ (r : Fin 256) (e : Fin 4096), y = ix2 r e := ⟨y 0, y 1, by funext a; match a with | ⟨0, _⟩ => rfl | ⟨1, _⟩ => rfl⟩
  obtain rfl : j = e := Fin.ext hj
  rw [body_at]
  unfold outAt
  rw [wblock m c t j]
  congr 1
  funext k
  exact xblock m c t r k n hn

/-- The kernel's result array. -/
theorem final : (dats m 0 c).arrAt 2 cfg0.N = fun i : S16384x4096.Idx => outAt m c (i 0) (i 1) := by
  refine (dats m 0 c).arrAt_eq_of_covers 2 _ (by decide +kernel) fun t _ y => ?_
  blk_simp
  rw [after0_2]
  frame_out
  refine point m c t y _ _ ?_ ?_
  · blk_simp [idx t]
  · blk_simp [idx t]

end Cert.FirstNorm

end
-- ==== Proof.InProj.lean ====
/- The input projection: a row of the normed states times a column of the weight, laid out in column blocks of 128; the
   kernel multiplies by the rows of the transposed weight. -/
module

public import proofs.«01_k».proof.Proof.Gen.InProjIdeal.Value
public import proofs.«01_k».proof.Proof.Gen.InProjReferenceIdeal.Run
public import Idealize.ShloMosaic.Lib.Pipeline.ValueKit

@[expose] public section

set_option maxRecDepth 16384

noncomputable section

namespace Cert.InP

open Idealize.ShloMosaic Idealize.ShloMosaic.TcCoe Idealize.SL.Sem

/-- Row `n` of `H` times column `128 b + d` of `W`. -/
def projAt (H : FVec Ideal ⟨2, ![16384, 4096]⟩ .bf16) (W : FVec Ideal ⟨2, ![4096, 14368]⟩ .f32) (b : Fin 112) (n : Fin 16384) (d : Fin 128) : EReal :=
  ∑ k : Fin 4096, H (ix2 n k) * W (ix2 k ⟨b.val * 128 + d.val, by omega⟩)

namespace Ref

open Cert.InProjReferenceIdeal Cert.InProjReferenceIdeal.Gen

/-- The reference's value at block `b`, row `n`, column `d`. -/
theorem at_ (H : FVec Ideal S16384x4096 .bf16) (W : FVec Ideal S4096x14368 .f32) (b : Fin 112) (n : Fin 16384) (d : Fin 128) :
    truncf .bf16 (transpose S112x16384x128 [1, 0, 2] (shapeCast _ (extractStridedSlice S16384x14336 ![0, 0]
      (Host.dotGeneral dot_S16384x4096_S4096x14368_S16384x14368_1_0_0_1_n_n none (extf .f32 H bitsLt_bf16_f32) W)
      slices_S16384x14368_S16384x14336_0_0) shapeCasts_S16384x14336_S16384x112x128) transposes_S16384x112x128_S112x16384x128_1_0_2) bitsLt_bf16_f32
      (ix3 b n d) = projAt H W b n d := by
  unfold projAt
  pointwise

end Ref

open Cert.InProjIdeal Cert.InProjIdeal.Gen

variable (m : (ℓ : Loc nD τ sig) → Buf (Elt Ideal) ℓ) (c : Dev nD)

theorem points (t : Fin cfg0.N) : t.val < 448 := by
  have : cfg0.N = 448 := N_0
  omega

/-- Point `t` is row tile `t / 28`, column tile `t % 28`. -/
theorem idx : ∀ t : Fin cfg0.N,
    win0_0.index t = ![t.val / 28, 0] ∧ win0_1.index t = ![t.val % 28, 0] ∧ win0_2.index t = ![t.val % 28, t.val / 28, 0] :=
  (by decide +kernel : ∀ t : Fin grid0.N, _)

/-- What a point computes from its blocks. -/
theorem body_at (h : Vec Ideal S1024x4096 .bf16) (w : Vec Ideal S512x4096 .f32) (r : Fin 1024) (e : Fin 512) :
    k0_pay1 h w (ix2 r e) = ∑ k : Fin 4096, h (ix2 r k) * w (ix2 e k) := by
  pointwise! [k0_pay1]

theorem w_at (r : Fin 14368) (k : Fin 4096) :
    V m c main_v0 (ix2 r k) = (m ((c : Thread nD τ).loc main_arg1) : FVec Ideal S4096x14368 .f32) (ix2 k r) := by
  entry_read
  pointwise

theorem hblock (t : Fin cfg0.N) (r : Fin 1024) (k : Fin 4096) :
    (iblk m c 0 t : Vec Ideal S1024x4096 .bf16) (ix2 r k) =
      (m ((c : Thread nD τ).loc main_arg0) : FVec Ideal S16384x4096 .bf16) (ix2 ⟨t.val / 28 * 1024 + r.val, by have := points t; omega⟩ k) := by
  have ht := points t
  rw [← V_main_arg0 m c]
  blk_ext [iblk, idx t]

/-- The weight's block is whole at every point. -/
theorem wblock (t : Fin cfg0.N) (e : Fin 512) (k : Fin 4096) :
    (X0_1 m c t : Vec Ideal S512x4096 .f32) (ix2 e k) =
      (m ((c : Thread nD τ).loc main_arg1) : FVec Ideal S4096x14368 .f32) (ix2 k ⟨t.val % 28 * 512 + e.val, by omega⟩) := by
  rw [← w_at m c]
  unfold X0_1 Pipeline.Window.fill
  rw [dif_pos (moved0_1 t _)]
  blk_ext [iblk, idx t]

/-- An entry of the product that a point computes. -/
theorem core (t : Fin cfg0.N) (i : S1024x512.Idx) (b : Fin 112) (n : Fin 16384) (d : Fin 128)
    (hn : n.val = t.val / 28 * 1024 + (i 0).val) (hb : b.val * 128 + d.val = t.val % 28 * 512 + (i 1).val) :
    k0_pay1 (F := Ideal) (iblk m c 0 t) (X0_1 m c t) i = projAt (m ((c : Thread nD τ).loc main_arg0)) (m ((c : Thread nD τ).loc main_arg1)) b n d := by
  have ht := points t
  have h0 : (i 0).val < 1024 := (i 0).isLt
  have h1 : (i 1).val < 512 := (i 1).isLt
  obtain ⟨r, e, rfl⟩ : ∃ (r : Fin 1024) (e : Fin 512), i = ix2 r e := ⟨i 0, i 1, by funext a; match a with | ⟨0, _⟩ => rfl | ⟨1, _⟩ => rfl⟩
  rw [body_at]
  unfold projAt
  refine Finset.sum_congr rfl fun k _ => ?_
  rw [wblock m c t e k, hblock m c t r k]
  have e1 : (⟨t.val / 28 * 1024 + r.val, by omega⟩ : Fin 16384) = n := Fin.ext hn.symm
  have e2 : (⟨t.val % 28 * 512 + e.val, by omega⟩ : Fin 14368) = ⟨b.val * 128 + d.val, by omega⟩ := Fin.ext hb.symm
  rw [e1, e2]

theorem point (t : Fin cfg0.N) (y : S4x1024x128.Idx) (b : Fin 112) (n : Fin 16384) (d : Fin 128)
    (hb : b.val = t.val % 28 * 4 + (y 0).val) (hn : n.val = t.val / 28 * 1024 + (y 1).val) (hd : d.val = (y 2).val) :
    outsAt0 m c t y = projAt (m ((c : Thread nD τ).loc main_arg0)) (m ((c : Thread nD τ).loc main_arg1)) b n d := by
  have ht := points t
  rw [show outsAt0 m c t = out0_A_2 c (grid0.coords t) (ms0_0 t) (hs0_0 t) (ms0_1 t) (hs0_1 t) (ms0_2 t) (hs0_2 t) (iblk m c 0 t) (X0_1 m c t) from rfl]
  frame_out
  obtain_idx i : S1024x512 := [(y 1 : ℕ), (y 0 : ℕ) * 128 + (y 2 : ℕ)] with hi
  refine Eq.trans (b := k0_pay1 (F := Ideal) (iblk m c 0 t) (X0_1 m c t) i) ?_ (core m c t i b n d ?_ ?_)
  · canon_tiles x h
    all_goals (open_payloads; pointwise; blk_ext)
  all_goals omega

/-- The kernel's result array. -/
theorem final : (dats m 0 c).arrAt 2 cfg0.N = fun i : S112x16384x128.Idx =>
    projAt (m ((c : Thread nD τ).loc main_arg0)) (m ((c : Thread nD τ).loc main_arg1)) (i 0) (i 1) (i 2) := by
  refine (dats m 0 c).arrAt_eq_of_covers 2 _ (by decide +kernel) fun t _ y => ?_
  blk_simp
  rw [after0_2]
  refine point m c t y _ _ _ ?_ ?_ ?_
  · blk_simp [idx t]
  · blk_simp [idx t]
  · blk_simp [idx t]

end Cert.InP

end
-- ==== Proof.OutProj.lean ====
/- The output projection: a row of the two halves times the weight's column, with the residual; the reference sums over
   the joined row, the kernel over each half. -/
module

public import proofs.«01_k».proof.Proof.Gen.OutProjIdeal.Value
public import proofs.«01_k».proof.Proof.Gen.OutProjReferenceIdeal.Run
public import Idealize.ShloMosaic.Lib.Pipeline.ValueKit

@[expose] public section

set_option maxRecDepth 16384

noncomputable section

namespace Cert.OutP

open Idealize.ShloMosaic Idealize.ShloMosaic.TcCoe Idealize.SL.Sem

/-- Row `n`, column `j` of the projection of the halves `A` and `B` by `W`, plus the residual `X`. -/
def projAt (A B : FVec Ideal ⟨2, ![16384, 2048]⟩ .bf16) (W : FVec Ideal ⟨2, ![4096, 4096]⟩ .f32) (X : FVec Ideal ⟨3, ![2, 8192, 4096]⟩ .f32)
    (n : Fin 16384) (j : Fin 4096) : EReal :=
  X (ix3 ⟨n.val / 8192, by omega⟩ ⟨n.val % 8192, by omega⟩ j) +
    (∑ k : Fin 2048, A (ix2 n k) * W (ix2 ⟨k.val, by omega⟩ j) + ∑ k : Fin 2048, B (ix2 n k) * W (ix2 ⟨2048 + k.val, by omega⟩ j))

theorem halves (f : Fin 4096 → EReal) :
    ∑ k, f k = ∑ k : Fin 2048, f ⟨k.val, by omega⟩ + ∑ k : Fin 2048, f ⟨2048 + k.val, by omega⟩ :=
  Fin.sum_univ_add (a := 2048) (b := 2048) f

namespace Ref

open Cert.OutProjReferenceIdeal Cert.OutProjReferenceIdeal.Gen

/-- The reference's value at row `n`, column `j`. -/
theorem at_ (A B : FVec Ideal S16384x2048 .bf16) (W : FVec Ideal S4096x4096 .f32) (X : FVec Ideal S2x8192x4096 .f32) (n : Fin 16384) (j : Fin 4096) :
    addf (shapeCast _ X shapeCasts_S2x8192x4096_S16384x4096) (Host.dotGeneral dot_S16384x4096_S4096x4096_S16384x4096_1_0_0_1_n_n none
      (extf .f32 (concatenate S16384x4096 1 [⟨S16384x2048, A⟩, ⟨S16384x2048, B⟩] concatenates_S16384x2048_S16384x2048_S16384x4096_d1) bitsLt_bf16_f32) W) (ix2 n j) =
      projAt A B W X n j := by
  have e : addf (shapeCast _ X shapeCasts_S2x8192x4096_S16384x4096) (Host.dotGeneral dot_S16384x4096_S4096x4096_S16384x4096_1_0_0_1_n_n none
      (extf .f32 (concatenate S16384x4096 1 [⟨S16384x2048, A⟩, ⟨S16384x2048, B⟩] concatenates_S16384x2048_S16384x2048_S16384x4096_d1) bitsLt_bf16_f32) W) (ix2 n j) =
      X (ix3 ⟨n.val / 8192, by omega⟩ ⟨n.val % 8192, by omega⟩ j) + ∑ k : Fin 4096, (if h : k.val < 2048 then A (ix2 n ⟨k.val, h⟩) else B (ix2 n ⟨k.val - 2048, by omega⟩)) * W (ix2 k j) := by
    pointwise
  rw [e, halves]
  unfold projAt
  congr 2

end Ref

open Cert.OutProjIdeal Cert.OutProjIdeal.Gen

variable (m : (ℓ : Loc nD τ sig) → Buf (Elt Ideal) ℓ) (c : Dev nD)

theorem points (t : Fin cfg0.N) : t.val < 128 := by
  have : cfg0.N = 128 := N_0
  omega

/-- Point `t` is row tile `t / 8`, column tile `t % 8`. -/
theorem idx : ∀ t : Fin cfg0.N,
    win0_0.index t = ![t.val / 8, 0] ∧ win0_1.index t = ![t.val / 8, 0] ∧ win0_2.index t = ![0, t.val % 8] ∧
    win0_3.index t = ![1, t.val % 8] ∧ win0_4.index t = ![t.val / 8, t.val % 8] ∧ win0_5.index t = ![t.val / 8, t.val % 8] :=
  (by decide +kernel : ∀ t : Fin grid0.N, _)

/-- What a point computes from its blocks. -/
theorem body_at (a : Vec Ideal S1024x2048 .bf16) (wa : Vec Ideal S2048x512 .f32) (b : Vec Ideal S1024x2048 .bf16) (wb : Vec Ideal S2048x512 .f32)
    (x : Vec Ideal S1024x512 .f32) (y : S1024x512.Idx) :
    k0_pay1 a wa b wb x y = x y + (∑ k : Fin 2048, a (ix2 (y 0) k) * wa (ix2 k (y 1)) + ∑ k : Fin 2048, b (ix2 (y 0) k) * wb (ix2 k (y 1))) := by
  pointwise! [k0_pay1]

theorem res_at (n : Fin 16384) (j : Fin 4096) :
    V m c main_v0 (ix2 n j) = (m ((c : Thread nD τ).loc main_arg3) : FVec Ideal S2x8192x4096 .f32) (ix3 ⟨n.val / 8192, by omega⟩ ⟨n.val % 8192, by omega⟩ j) := by
  entry_read
  pointwise

theorem point (t : Fin cfg0.N) (y : S1024x512.Idx) (n : Fin 16384) (j : Fin 4096)
    (hn : n.val = t.val / 8 * 1024 + (y 0).val) (hj : j.val = t.val % 8 * 512 + (y 1).val) :
    k0_pay1 (F := Ideal) (iblk m c 0 t) (iblk m c 2 t) (iblk m c 1 t) (iblk m c 3 t) (iblk m c 4 t) y =
      projAt (m ((c : Thread nD τ).loc main_arg0)) (m ((c : Thread nD τ).loc main_arg1)) (m ((c : Thread nD τ).loc main_arg2))
        (m ((c : Thread nD τ).loc main_arg3)) n j := by
  have ht := points t
  rw [body_at]
  unfold projAt
  rw [← res_at m c n j, ← V_main_arg0 m c, ← V_main_arg1 m c, ← V_main_arg2 m c]
  blk_point [iblk, idx t]

/-- The kernel's result array. -/
theorem final : (dats m 0 c).arrAt 5 cfg0.N = fun i : S16384x4096.Idx =>
    projAt (m ((c : Thread nD τ).loc main_arg0)) (m ((c : Thread nD τ).loc main_arg1)) (m ((c : Thread nD τ).loc main_arg2))
      (m ((c : Thread nD τ).loc main_arg3)) (i 0) (i 1) := by
  refine (dats m 0 c).arrAt_eq_of_covers 5 _ (by decide +kernel) fun t _ y => ?_
  blk_simp
  rw [after0_5]
  frame_out
  refine point m c t y _ _ ?_ ?_
  · blk_simp [idx t]
  · blk_simp [idx t]

end Cert.OutP

end
-- ==== Proof.MixCalls.lean ====
/- Three of the calls of the mixing half, each as a function of the arrays it is launched on: the first norm, the input
   projection and the output projection. -/
module

public import proofs.«01_k».proof.Proof.Norm
public import proofs.«01_k».proof.Proof.Gen.MixerIdeal.Frame
public import Idealize.ShloMosaic.Lib.Pipeline.ValueKit

@[expose] public section

set_option maxRecDepth 16384

noncomputable section

namespace Cert.Mix

open Idealize.ShloMosaic Idealize.ShloMosaic.TcCoe Idealize.SL.Sem
open Cert.MixerIdeal Cert.MixerIdeal.Gen Cert.FirstNorm

variable (V : (c : Dev nD) → (b : Ref sig .tc) → Buf (Elt Ideal) ((c : Thread nD τ).loc b)) (c : Dev nD)

theorem points0 (t : Fin cfg0.N) : t.val < 64 := by
  have : cfg0.N = 64 := N_0
  omega

theorem idx0 : ∀ t : Fin cfg0.N,
    win0_0.index t = ![t.val, 0] ∧ win0_1.index t = ![0, 0] ∧ win0_2.index t = ![t.val, 0] :=
  (by decide +kernel : ∀ t : Fin grid0.N, _)

theorem body0 (x : Vec Ideal S256x4096 .f32) (w : Vec Ideal S1x4096 .f32) (r : Fin 256) (j : Fin 4096) :
    k0_pay1 x w (ix2 r j) = normAt (fun k => x (ix2 r k)) (w (ix2 0 j)) j := by
  unfold normAt
  pointwise [k0_pay1]

/-- A row of the first norm, from the arrays it is launched on. -/
def rowNorm (X : FVec Ideal S16384x4096 .f32) (W : FVec Ideal S1x4096 .f32) (n : Fin 16384) (j : Fin 4096) : EReal :=
  normAt (fun k => X (ix2 n k)) (W (ix2 0 j)) j

theorem point0 (t : Fin cfg0.N) (y : S256x4096.Idx) (n : Fin 16384) (j : Fin 4096) (hn : n.val = t.val * 256 + (y 0).val) (hj : j.val = (y 1).val) :
    k0_pay1 (F := Ideal) (iblk0 V c 0 t) (iblk0 V c 1 t) y = rowNorm (V c main_v0) (V c main_v3) n j := by
  obtain ⟨r, e, rfl⟩ : ∃ (r : Fin 256) (e : Fin 4096), y = ix2 r e := ⟨y 0, y 1, by funext a; match a with | ⟨0, _⟩ => rfl | ⟨1, _⟩ => rfl⟩
  obtain rfl : j = e := Fin.ext hj
  replace hn : n.val = t.val * 256 + r.val := hn
  have ht := points0 t
  have h0 : ∀ k : Fin 4096, (iblk0 V c 0 t : Vec Ideal S256x4096 .f32) (ix2 r k) = (V c main_v0 : FVec Ideal S16384x4096 .f32) (ix2 n k) := by
    intro k
    blk_ext [iblk0, idx0 t]
  have h1 : (iblk0 V c 1 t : Vec Ideal S1x4096 .f32) (ix2 0 j) = (V c main_v3 : FVec Ideal S1x4096 .f32) (ix2 0 j) := by
    blk_ext [iblk0, idx0 t]
  rw [body0]
  unfold rowNorm
  rw [h1]
  exact congrArg (fun f => normAt f _ j) (funext h0)

/-- What the first norm leaves. -/
theorem final0 : (dat0 V c).arrAt 2 cfg0.N = fun i : S16384x4096.Idx => rowNorm (V c main_v0) (V c main_v3) (i 0) (i 1) := by
  refine (dat0 V c).arrAt_eq_of_covers 2 _ (by decide +kernel) fun t _ y => ?_
  blk_simp
  rw [after0_2]
  frame_out
  refine point0 V c t y _ _ ?_ ?_
  · blk_simp [idx0 t]
  · blk_simp [idx0 t]

theorem points1 (t : Fin cfg1.N) : t.val < 448 := by
  have : cfg1.N = 448 := N_1
  omega

/-- Point `t` is row tile `t / 28`, column tile `t % 28`. -/
theorem idx1 : ∀ t : Fin cfg1.N,
    win1_0.index t = ![t.val / 28, 0] ∧ win1_1.index t = ![t.val % 28, 0] ∧ win1_2.index t = ![t.val % 28, t.val / 28, 0] :=
  (by decide +kernel : ∀ t : Fin grid1.N, _)

theorem body1 (h : Vec Ideal S1024x4096 .bf16) (w : Vec Ideal S512x4096 .f32) (r : Fin 1024) (e : Fin 512) :
    k1_pay1 h w (ix2 r e) = ∑ k : Fin 4096, h (ix2 r k) * w (ix2 e k) := by
  pointwise! [k1_pay1]

/-- Row `n` of the normed states times row `128 b + d` of the transposed weight. -/
def rowProj (H : FVec Ideal S16384x4096 .bf16) (W : FVec Ideal S14336x4096 .f32) (b : Fin 112) (n : Fin 16384) (d : Fin 128) : EReal :=
  ∑ k : Fin 4096, H (ix2 n k) * W (ix2 ⟨b.val * 128 + d.val, by omega⟩ k)

/-- An entry of the product that a point computes. -/
theorem core1 (t : Fin cfg1.N) (i : S1024x512.Idx) (b : Fin 112) (n : Fin 16384) (d : Fin 128)
    (hn : n.val = t.val / 28 * 1024 + (i 0).val) (hb : b.val * 128 + d.val = t.val % 28 * 512 + (i 1).val) :
    k1_pay1 (F := Ideal) (iblk1 V c 0 t) (iblk1 V c 1 t) i = rowProj (V c main_v4) (V c main_v2) b n d := by
  have ht := points1 t
  obtain ⟨r, e, rfl⟩ : ∃ (r : Fin 1024) (e : Fin 512), i = ix2 r e := ⟨i 0, i 1, by funext a; match a with | ⟨0, _⟩ => rfl | ⟨1, _⟩ => rfl⟩
  replace hn : n.val = t.val / 28 * 1024 + r.val := hn
  replace hb : b.val * 128 + d.val = t.val % 28 * 512 + e.val := hb
  have h0 : ∀ k : Fin 4096, (iblk1 V c 0 t : Vec Ideal S1024x4096 .bf16) (ix2 r k) = (V c main_v4 : FVec Ideal S16384x4096 .bf16) (ix2 n k) := by
    intro k
    blk_ext [iblk1, idx1 t]
  have h1 : ∀ k : Fin 4096, (iblk1 V c 1 t : Vec Ideal S512x4096 .f32) (ix2 e k) =
      (V c main_v2 : FVec Ideal S14336x4096 .f32) (ix2 ⟨b.val * 128 + d.val, by omega⟩ k) := by
    intro k
    blk_ext [iblk1, idx1 t]
  rw [body1]
  unfold rowProj
  exact Finset.sum_congr rfl fun k _ => by rw [h0, h1]

theorem point1 (t : Fin cfg1.N) (y : S4x1024x128.Idx) (b : Fin 112) (n : Fin 16384) (d : Fin 128)
    (hb : b.val = t.val % 28 * 4 + (y 0).val) (hn : n.val = t.val / 28 * 1024 + (y 1).val) (hd : d.val = (y 2).val) :
    out1_2 (F := Ideal) (iblk1 V c 0 t) (iblk1 V c 1 t) y = rowProj (V c main_v4) (V c main_v2) b n d := by
  have ht := points1 t
  frame_out
  obtain_idx i : S1024x512 := [(y 1 : ℕ), (y 0 : ℕ) * 128 + (y 2 : ℕ)] with hi
  refine Eq.trans (b := k1_pay1 (F := Ideal) (iblk1 V c 0 t) (iblk1 V c 1 t) i) ?_ (core1 V c t i b n d ?_ ?_)
  · canon_tiles x h
    all_goals (open_payloads; pointwise; blk_ext)
  all_goals omega

/-- What the input projection leaves. -/
theorem final1 : (dat1 V c).arrAt 2 cfg1.N = fun i : S112x16384x128.Idx => rowProj (V c main_v4) (V c main_v2) (i 0) (i 1) (i 2) := by
  refine (dat1 V c).arrAt_eq_of_covers 2 _ (by decide +kernel) fun t _ y => ?_
  blk_simp
  rw [after1_2]
  refine point1 V c t y _ _ _ ?_ ?_ ?_
  · blk_simp [idx1 t]
  · blk_simp [idx1 t]
  · blk_simp [idx1 t]

theorem points3 (t : Fin cfg3.N) : t.val < 128 := by
  have : cfg3.N = 128 := N_3
  omega

/-- Point `t` is row tile `t / 8`, column tile `t % 8`. -/
theorem idx3 : ∀ t : Fin cfg3.N,
    win3_0.index t = ![t.val / 8, 0] ∧ win3_1.index t = ![t.val / 8, 0] ∧ win3_2.index t = ![0, t.val % 8] ∧
    win3_3.index t = ![1, t.val % 8] ∧ win3_4.index t = ![t.val / 8, t.val % 8] ∧ win3_5.index t = ![t.val / 8, t.val % 8] :=
  (by decide +kernel : ∀ t : Fin grid3.N, _)

theorem body3 (a : Vec Ideal S1024x2048 .bf16) (wa : Vec Ideal S2048x512 .f32) (b : Vec Ideal S1024x2048 .bf16) (wb : Vec Ideal S2048x512 .f32)
    (x : Vec Ideal S1024x512 .f32) (y : S1024x512.Idx) :
    k3_pay1 a wa b wb x y = x y + (∑ k : Fin 2048, a (ix2 (y 0) k) * wa (ix2 k (y 1)) + ∑ k : Fin 2048, b (ix2 (y 0) k) * wb (ix2 k (y 1))) := by
  pointwise! [k3_pay1]

/-- Row `n`, column `j` of the projection of the halves `A` and `B` by `W`, plus the residual `X`. -/
def rowMixed (A B : FVec Ideal S16384x2048 .bf16) (W : FVec Ideal S4096x4096 .f32) (X : FVec Ideal S16384x4096 .f32)
    (n : Fin 16384) (j : Fin 4096) : EReal :=
  X (ix2 n j) +
    (∑ k : Fin 2048, A (ix2 n k) * W (ix2 ⟨k.val, by omega⟩ j) + ∑ k : Fin 2048, B (ix2 n k) * W (ix2 ⟨2048 + k.val, by omega⟩ j))

theorem point3 (t : Fin cfg3.N) (y : S1024x512.Idx) (n : Fin 16384) (j : Fin 4096)
    (hn : n.val = t.val / 8 * 1024 + (y 0).val) (hj : j.val = t.val % 8 * 512 + (y 1).val) :
    k3_pay1 (F := Ideal) (iblk3 V c 0 t) (iblk3 V c 2 t) (iblk3 V c 1 t) (iblk3 V c 3 t) (iblk3 V c 4 t) y =
      rowMixed (V c main_v38) (V c main_v39) (V c main_arg7) (V c main_v0) n j := by
  have ht := points3 t
  rw [body3]
  unfold rowMixed
  blk_point [iblk3, idx3 t]

/-- What the output projection leaves. -/
theorem final3 : (dat3 V c).arrAt 5 cfg3.N = fun i : S16384x4096.Idx =>
    rowMixed (V c main_v38) (V c main_v39) (V c main_arg7) (V c main_v0) (i 0) (i 1) := by
  refine (dat3 V c).arrAt_eq_of_covers 5 _ (by decide +kernel) fun t _ y => ?_
  blk_simp
  rw [after3_5]
  frame_out
  refine point3 V c t y _ _ ?_ ?_
  · blk_simp [idx3 t]
  · blk_simp [idx3 t]

end Cert.Mix

end
-- ==== Proof.MixSame.lean ====
/- The band attention of the mixing half computes, per grid point, what it computes alone. -/
module

public import proofs.«01_k».proof.Proof.Gen.KernelIdeal.Value
public import proofs.«01_k».proof.Proof.Gen.MixerIdeal.Frame

@[expose] public section

set_option maxRecDepth 16384

noncomputable section

namespace Cert.Mix

open Idealize.ShloMosaic Idealize.ShloMosaic.TcCoe Idealize.SL.Sem
open Cert.MixerIdeal Cert.MixerIdeal.Gen

/-- The two bodies store the same block. -/
theorem out_same (i : grid2.Coords) (x0 x1 x2 x3 x4 : Vec Ideal S2x512x128 .bf16) (x5 : Vec Ideal S2x128x640 .f32) (x6 x7 : Vec Ideal S1x128 .f32) :
    out2_8 (F := Ideal) i x0 x1 x2 x3 x4 x5 x6 x7 = Cert.KernelIdeal.Gen.out0_8 (F := Ideal) i x0 x1 x2 x3 x4 x5 x6 x7 := rfl

end Cert.Mix

end
-- ==== Proof.MixRef.lean ====
/- The mixing half's reference, stage by stage: the norm, the projection, its heads, the band attention over them, and the
   output projection of the attention beside the delta rule's output, with the residual. -/
module

public import proofs.«01_k».proof.Proof.Ref
public import proofs.«01_k».proof.Proof.Norm
public import proofs.«01_k».proof.Proof.OutProj
public import proofs.«01_k».proof.Proof.Gen.MixerReferenceIdeal.Run
public import Idealize.ShloMosaic.Lib.Pipeline.ValueKit

@[expose] public section

set_option maxRecDepth 16384

noncomputable section

namespace Cert.MixRef

open Idealize.ShloMosaic Idealize.ShloMosaic.TcCoe Idealize.SL.Sem
open Cert.MixerReferenceIdeal Cert.MixerReferenceIdeal.Gen Cert.BandRef Cert.FirstNorm Cert.Band

/-- The normed states. -/
def hidden (X : FVec Ideal S2x8192x4096 .f32) (W : FVec Ideal S4096 .f32) : FVec Ideal S2x8192x4096 .f32 :=
  mulf (mulf X (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf X X) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 W))

/-- Their projection. -/
def projected (H : FVec Ideal S2x8192x4096 .f32) (W : FVec Ideal S4096x14368 .f32) : FVec Ideal S2x8192x14368 .f32 :=
  Host.dotGeneral dot_S2x8192x4096_S4096x14368_S2x8192x14368_2_0_01_1_n_n none H W

/-- The query heads of the projection. -/
def partQ (p : FVec Ideal S2x8192x14368 .f32) : FVec Ideal S2x16x8192x128 .f32 :=
  transpose S2x16x8192x128 [0, 2, 1, 3] (shapeCast _ (extractStridedSlice S2x8192x2048 ![0, 0, 0] p slices_S2x8192x14368_S2x8192x2048_0_0_0) shapeCasts_S2x8192x2048_S2x8192x16x128) transposes_S2x8192x16x128_S2x16x8192x128_0_2_1_3

/-- The key heads of the projection. -/
def partK (p : FVec Ideal S2x8192x14368 .f32) : FVec Ideal S2x16x8192x128 .f32 :=
  transpose S2x16x8192x128 [0, 2, 1, 3] (shapeCast _ (extractStridedSlice S2x8192x2048 ![0, 0, 2048] p slices_S2x8192x14368_S2x8192x2048_0_0_2048) shapeCasts_S2x8192x2048_S2x8192x16x128) transposes_S2x8192x16x128_S2x16x8192x128_0_2_1_3

/-- The value heads of the projection. -/
def partV (p : FVec Ideal S2x8192x14368 .f32) : FVec Ideal S2x16x8192x128 .f32 :=
  transpose S2x16x8192x128 [0, 2, 1, 3] (shapeCast _ (extractStridedSlice S2x8192x2048 ![0, 0, 4096] p slices_S2x8192x14368_S2x8192x2048_0_0_4096) shapeCasts_S2x8192x2048_S2x8192x16x128) transposes_S2x8192x16x128_S2x16x8192x128_0_2_1_3

/-- Heads and blocks put back into rows. -/
def rows (O : FVec Ideal S2x16x128x64x128 .f32) : FVec Ideal S2x8192x2048 .f32 :=
  shapeCast _ (transpose S2x8192x16x128 [0, 2, 1, 3] (shapeCast _ O shapeCasts_S2x16x128x64x128_S2x16x8192x128) transposes_S2x16x8192x128_S2x8192x16x128_0_2_1_3) shapeCasts_S2x8192x16x128_S2x8192x2048

/-- The output projection of the two halves, with the residual. -/
def mixed (X : FVec Ideal S2x8192x4096 .f32) (A : FVec Ideal S2x8192x2048 .f32) (Y : FVec Ideal S2x8192x2048 .bf16) (W : FVec Ideal S4096x4096 .f32) :
    FVec Ideal S16384x4096 .f32 :=
  shapeCast _ (addf X (Host.dotGeneral dot_S2x8192x4096_S4096x4096_S2x8192x4096_2_0_01_1_n_n none (concatenate S2x8192x4096 2 [⟨S2x8192x2048, A⟩, ⟨S2x8192x2048, extf .f32 Y bitsLt_bf16_f32⟩] concatenates_S2x8192x2048_S2x8192x2048_S2x8192x4096_d2) W)) shapeCasts_S2x8192x4096_S16384x4096

/-- The attention over given heads. -/
def attention (Q K V : FVec Ideal S2x16x8192x128 .f32) (B : FVec Ideal S16x513 .f32) (wq wk : FVec Ideal S128 .f32) : FVec Ideal S2x16x128x64x128 .f32 :=
  attend (scores (normed Q wq) (banded (normed K wk)) (biasBand B)) (banded V)

/-- The whole half, from its arrays. -/
def half (X : FVec Ideal S2x8192x4096 .f32) (w1 : FVec Ideal S4096 .f32) (W : FVec Ideal S4096x14368 .f32) (wq wk : FVec Ideal S128 .f32)
    (B : FVec Ideal S16x513 .f32) (Y : FVec Ideal S2x8192x2048 .bf16) (Wo : FVec Ideal S4096x4096 .f32) : FVec Ideal S16384x4096 .f32 :=
  mixed X (rows (attention (partQ (projected (hidden X w1) W)) (partK (projected (hidden X w1) W)) (partV (projected (hidden X w1) W)) B wq wk)) Y Wo

theorem res_stages (m : (ℓ : Loc nD τ sig) → Buf (Elt Ideal) ℓ) (c : Dev nD) :
    Value.res_main_v124 m c =
      half (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  unfold Value.res_main_v124
  rfl

theorem hidden_at (X : FVec Ideal S2x8192x4096 .f32) (W : FVec Ideal S4096 .f32) (b : Fin 2) (s : Fin 8192) (j : Fin 4096) :
    hidden X W (ix3 b s j) = normAt (fun k => X (ix3 b s k)) (W (ix1 j)) j := by
  unfold hidden normAt
  pointwise

theorem projected_at (H : FVec Ideal S2x8192x4096 .f32) (W : FVec Ideal S4096x14368 .f32) (b : Fin 2) (s : Fin 8192) (e : Fin 14368) :
    projected H W (ix3 b s e) = ∑ k : Fin 4096, H (ix3 b s k) * W (ix2 k e) := by
  unfold projected
  pointwise

theorem partQ_at (p : FVec Ideal S2x8192x14368 .f32) (b : Fin 2) (h : Fin 16) (s : Fin 8192) (d : Fin 128) :
    partQ p (ix4 b h s d) = p (ix3 b s ⟨h.val * 128 + d.val, by omega⟩) := by
  unfold partQ
  pointwise

theorem partK_at (p : FVec Ideal S2x8192x14368 .f32) (b : Fin 2) (h : Fin 16) (s : Fin 8192) (d : Fin 128) :
    partK p (ix4 b h s d) = p (ix3 b s ⟨2048 + (h.val * 128 + d.val), by omega⟩) := by
  unfold partK
  pointwise

theorem partV_at (p : FVec Ideal S2x8192x14368 .f32) (b : Fin 2) (h : Fin 16) (s : Fin 8192) (d : Fin 128) :
    partV p (ix4 b h s d) = p (ix3 b s ⟨4096 + (h.val * 128 + d.val), by omega⟩) := by
  unfold partV
  pointwise

theorem rows_at (O : FVec Ideal S2x16x128x64x128 .f32) (b : Fin 2) (s : Fin 8192) (j : Fin 2048) :
    rows O (ix3 b s j) = O (ix5 b ⟨j.val / 128, by omega⟩ ⟨s.val / 64, by omega⟩ ⟨s.val % 64, by omega⟩ ⟨j.val % 128, by omega⟩) := by
  unfold rows
  pointwise

/-- The projection's columns as the attention alone takes them: blocks of 128, the batch's rows one after the other. -/
def layout (p : FVec Ideal S2x8192x14368 .f32) : (⟨3, ![112, 16384, 128]⟩ : Shape).Idx → EReal := fun i =>
  p (ix3 ⟨(i 1).val / 8192, by have : (i 1).val < 16384 := (i 1).isLt; omega⟩ ⟨(i 1).val % 8192, by omega⟩
    ⟨(i 0).val * 128 + (i 2).val, by have : (i 0).val < 112 := (i 0).isLt; have : (i 2).val < 128 := (i 2).isLt; omega⟩)

theorem layout_at (p : FVec Ideal S2x8192x14368 .f32) (e : Fin 112) (b : Fin 2) (s : Fin 8192) (d : Fin 128) (n : Fin 16384)
    (hn : n.val = b.val * 8192 + s.val) (z : Fin 14368) (hz : z.val = e.val * 128 + d.val) :
    layout p (ix3 e n d) = p (ix3 b s z) := by
  unfold layout
  have e0 : (⟨n.val / 8192, by omega⟩ : Fin 2) = b := Fin.ext (by dsimp only; omega)
  have e1 : (⟨n.val % 8192, by omega⟩ : Fin 8192) = s := Fin.ext (by dsimp only; omega)
  have e2 : (⟨e.val * 128 + d.val, by omega⟩ : Fin 14368) = z := Fin.ext hz.symm
  show p (ix3 ⟨n.val / 8192, _⟩ ⟨n.val % 8192, _⟩ ⟨e.val * 128 + d.val, _⟩) = _
  rw [e0, e1, e2]

theorem ix4_surj (i : S2x16x8192x128.Idx) : ∃ (b : Fin 2) (h : Fin 16) (s : Fin 8192) (d : Fin 128), i = ix4 b h s d :=
  ⟨i 0, i 1, i 2, i 3, by funext a; match a with | ⟨0, _⟩ => rfl | ⟨1, _⟩ => rfl | ⟨2, _⟩ => rfl | ⟨3, _⟩ => rfl⟩

theorem partQ_layout (p : FVec Ideal S2x8192x14368 .f32) : partQ p = headsQ (layout p) := by
  funext i
  obtain ⟨b, h, s, d, rfl⟩ := ix4_surj i
  exact (partQ_at p b h s d).trans ((headsQ_at (layout p) b h s d).trans (layout_at p _ b s d _ rfl _ rfl)).symm

theorem partK_layout (p : FVec Ideal S2x8192x14368 .f32) : partK p = headsK (layout p) := by
  funext i
  obtain ⟨b, h, s, d, rfl⟩ := ix4_surj i
  exact (partK_at p b h s d).trans ((headsK_at (layout p) b h s d).trans (layout_at p _ b s d _ rfl _ (by dsimp only; omega))).symm

theorem partV_layout (p : FVec Ideal S2x8192x14368 .f32) : partV p = headsV (layout p) := by
  funext i
  obtain ⟨b, h, s, d, rfl⟩ := ix4_surj i
  exact (partV_at p b h s d).trans ((headsV_at (layout p) b h s d).trans (layout_at p _ b s d _ rfl _ (by dsimp only; omega))).symm

/-- The attention at a row and a column, from the projection's column blocks. -/
def cell (P : FVec Ideal ⟨3, ![112, 16384, 128]⟩ .bf16) (B : FVec Ideal ⟨2, ![16, 513]⟩ .f32) (wq wk : FVec Ideal ⟨1, ![128]⟩ .f32)
    (n : Fin 16384) (j : Fin 2048) : EReal :=
  ∑ k, Ideal.div (Ideal.exp (refScores P B wq wk ⟨n.val / 8192, by omega⟩ ⟨j.val / 128, by omega⟩ ⟨n.val % 8192 / 64, by omega⟩
      ⟨n.val % 64, by omega⟩ k - Finset.univ.fold max ⊥ (refScores P B wq wk ⟨n.val / 8192, by omega⟩
      ⟨j.val / 128, by omega⟩ ⟨n.val % 8192 / 64, by omega⟩ ⟨n.val % 64, by omega⟩)))
    (den (refScores P B wq wk ⟨n.val / 8192, by omega⟩ ⟨j.val / 128, by omega⟩ ⟨n.val % 8192 / 64, by omega⟩
      ⟨n.val % 64, by omega⟩)) *
    banded (headsV P) (ix5 ⟨n.val / 8192, by omega⟩ ⟨j.val / 128, by omega⟩ ⟨n.val % 8192 / 64, by omega⟩ k
      ⟨j.val % 128, by omega⟩)

theorem attention_at (P : FVec Ideal ⟨3, ![112, 16384, 128]⟩ .bf16) (B : FVec Ideal S16x513 .f32) (wq wk : FVec Ideal S128 .f32)
    (n : Fin 16384) (j : Fin 2048) :
    attention (headsQ P) (headsK P) (headsV P) B wq wk (ix5 ⟨n.val / 8192, by omega⟩ ⟨j.val / 128, by omega⟩
      ⟨n.val % 8192 / 64, by omega⟩ ⟨n.val % 64, by omega⟩ ⟨j.val % 128, by omega⟩) = cell P B wq wk n j := by
  unfold attention cell
  rw [attend_at]
  simp only [expRow_at, refScores_at]
  rfl

theorem mixed_at (X : FVec Ideal S2x8192x4096 .f32) (A : FVec Ideal S2x8192x2048 .f32) (Y : FVec Ideal S2x8192x2048 .bf16) (W : FVec Ideal S4096x4096 .f32)
    (n : Fin 16384) (j : Fin 4096) :
    mixed X A Y W (ix2 n j) = X (ix3 ⟨n.val / 8192, by omega⟩ ⟨n.val % 8192, by omega⟩ j) +
      (∑ k : Fin 2048, A (ix3 ⟨n.val / 8192, by omega⟩ ⟨n.val % 8192, by omega⟩ k) * W (ix2 ⟨k.val, by omega⟩ j) +
        ∑ k : Fin 2048, Y (ix3 ⟨n.val / 8192, by omega⟩ ⟨n.val % 8192, by omega⟩ k) * W (ix2 ⟨2048 + k.val, by omega⟩ j)) := by
  have e : mixed X A Y W (ix2 n j) = X (ix3 ⟨n.val / 8192, by omega⟩ ⟨n.val % 8192, by omega⟩ j) +
      ∑ k : Fin 4096, (if h : k.val < 2048 then A (ix3 ⟨n.val / 8192, by omega⟩ ⟨n.val % 8192, by omega⟩ ⟨k.val, h⟩)
        else Y (ix3 ⟨n.val / 8192, by omega⟩ ⟨n.val % 8192, by omega⟩ ⟨k.val - 2048, by omega⟩)) * W (ix2 k j) := by
    unfold mixed
    pointwise
  rw [e, OutP.halves]
  congr 2

/-- The whole half at a row and a column. -/
theorem half_at (X : FVec Ideal S2x8192x4096 .f32) (w1 : FVec Ideal S4096 .f32) (W : FVec Ideal S4096x14368 .f32) (wq wk : FVec Ideal S128 .f32)
    (B : FVec Ideal S16x513 .f32) (Y : FVec Ideal S2x8192x2048 .bf16) (Wo : FVec Ideal S4096x4096 .f32) (n : Fin 16384) (j : Fin 4096) :
    half X w1 W wq wk B Y Wo (ix2 n j) = X (ix3 ⟨n.val / 8192, by omega⟩ ⟨n.val % 8192, by omega⟩ j) +
      (∑ k : Fin 2048, cell (layout (projected (hidden X w1) W)) B wq wk n k * Wo (ix2 ⟨k.val, by omega⟩ j) +
        ∑ k : Fin 2048, Y (ix3 ⟨n.val / 8192, by omega⟩ ⟨n.val % 8192, by omega⟩ k) * Wo (ix2 ⟨2048 + k.val, by omega⟩ j)) := by
  unfold half
  rw [mixed_at, partQ_layout, partK_layout, partV_layout]
  congr 2
  refine Finset.sum_congr rfl fun k _ => ?_
  rw [rows_at]
  have e3 : (⟨n.val % 8192 % 64, by omega⟩ : Fin 64) = ⟨n.val % 64, by omega⟩ := Fin.ext (by dsimp only; omega)
  dsimp only
  rw [e3, attention_at]

end Cert.MixRef

end
-- ==== Proof.MixBand.lean ====
/- The band attention of the mixing half, as a function of the arrays it is launched on. -/
module

public import proofs.«01_k».proof.Proof.Blocks
public import proofs.«01_k».proof.Proof.MixSame
public import proofs.«01_k».proof.Proof.MixRef

@[expose] public section

set_option maxRecDepth 16384

noncomputable section

namespace Cert.Mix

open Idealize.ShloMosaic Idealize.ShloMosaic.TcCoe Idealize.SL.Sem
open Cert.MixerIdeal Cert.MixerIdeal.Gen
open Cert.Band (IsReal biasAt Blocks row_eq out_at bandScores bandVals)
open Cert.MixRef (cell)

variable (V : (c : Dev nD) → (b : Ref sig .tc) → Buf (Elt Ideal) ((c : Thread nD τ).loc b)) (c : Dev nD)

/-- The windows' index maps: point `t` is batch `t/128`, head pair `t/16 % 8`, tile `t % 16`. -/
theorem idx2 : ∀ t : Fin cfg2.N,
    win2_0.index t = ![t.val / 16 % 8, t.val / 128 * 16 + t.val % 16, 0] ∧
    win2_1.index t = ![8 + t.val / 16 % 8, t.val / 128 * 16 + (t.val % 16 - 1), 0] ∧
    win2_2.index t = ![8 + t.val / 16 % 8, t.val / 128 * 16 + t.val % 16, 0] ∧
    win2_3.index t = ![16 + t.val / 16 % 8, t.val / 128 * 16 + (t.val % 16 - 1), 0] ∧
    win2_4.index t = ![16 + t.val / 16 % 8, t.val / 128 * 16 + t.val % 16, 0] ∧
    win2_5.index t = ![t.val / 16 % 8, 0, 0] ∧ win2_6.index t = ![0, 0] ∧ win2_7.index t = ![0, 0] ∧
    win2_8.index t = ![t.val / 128 * 16 + t.val % 16, t.val / 16 % 8] :=
  (by decide +kernel : ∀ t : Fin grid2.N, _)

theorem tile_coord2 : ∀ t : Fin cfg2.N, (grid2.coords t 1).val = t.val % 16 :=
  (by decide +kernel : ∀ t : Fin grid2.N, _)

theorem points2 (t : Fin cfg2.N) : t.val < 256 := by
  have : cfg2.N = 256 := N_2
  omega

variable (B : FVec Ideal S16x513 .f32) (wq wk : FVec Ideal S128 .f32)
  (hb : ∀ (h : Fin 16) (q : Fin 128) (k : Fin 640), (V c main_v33 : FVec Ideal S16x128x640 .f32) (ix3 h q k) = biasAt B h q.val k.val)
  (hq : ∀ d : Fin 128, (V c main_v36 : FVec Ideal S1x128 .f32) (ix2 0 d) = wq (ix1 d) * Ideal.ofBits .f32 0x3DB504F3#32)
  (hk : ∀ d : Fin 128, (V c main_v37 : FVec Ideal S1x128 .f32) (ix2 0 d) = wk (ix1 d))

theorem read2_0 (t : Fin cfg2.N) (hd : Fin 2) (r : Fin 512) (d : Fin 128) :
    (iblk2 V c 0 t : Vec Ideal S2x512x128 .bf16) (ix3 hd r d) = (V c main_v5 : FVec Ideal S112x16384x128 .bf16) (ix3 ⟨t.val / 16 % 8 * 2 + hd.val, by have := points2 t; omega⟩
      ⟨t.val / 128 * 8192 + t.val % 16 * 512 + r.val, by have := points2 t; omega⟩ d) := by
  have ht := points2 t
  blk_ext [iblk2, idx2 t]

theorem read2_1 (t : Fin cfg2.N) (hd : Fin 2) (r : Fin 512) (d : Fin 128) :
    (iblk2 V c 1 t : Vec Ideal S2x512x128 .bf16) (ix3 hd r d) = (V c main_v5 : FVec Ideal S112x16384x128 .bf16) (ix3 ⟨16 + (t.val / 16 % 8 * 2 + hd.val), by have := points2 t; omega⟩
      ⟨t.val / 128 * 8192 + (t.val % 16 - 1) * 512 + r.val, by have := points2 t; omega⟩ d) := by
  have ht := points2 t
  blk_ext [iblk2, idx2 t]

theorem read2_2 (t : Fin cfg2.N) (hd : Fin 2) (r : Fin 512) (d : Fin 128) :
    (iblk2 V c 2 t : Vec Ideal S2x512x128 .bf16) (ix3 hd r d) = (V c main_v5 : FVec Ideal S112x16384x128 .bf16) (ix3 ⟨16 + (t.val / 16 % 8 * 2 + hd.val), by have := points2 t; omega⟩
      ⟨t.val / 128 * 8192 + t.val % 16 * 512 + r.val, by have := points2 t; omega⟩ d) := by
  have ht := points2 t
  blk_ext [iblk2, idx2 t]

theorem read2_3 (t : Fin cfg2.N) (hd : Fin 2) (r : Fin 512) (d : Fin 128) :
    (iblk2 V c 3 t : Vec Ideal S2x512x128 .bf16) (ix3 hd r d) = (V c main_v5 : FVec Ideal S112x16384x128 .bf16) (ix3 ⟨32 + (t.val / 16 % 8 * 2 + hd.val), by have := points2 t; omega⟩
      ⟨t.val / 128 * 8192 + (t.val % 16 - 1) * 512 + r.val, by have := points2 t; omega⟩ d) := by
  have ht := points2 t
  blk_ext [iblk2, idx2 t]

theorem read2_4 (t : Fin cfg2.N) (hd : Fin 2) (r : Fin 512) (d : Fin 128) :
    (iblk2 V c 4 t : Vec Ideal S2x512x128 .bf16) (ix3 hd r d) = (V c main_v5 : FVec Ideal S112x16384x128 .bf16) (ix3 ⟨32 + (t.val / 16 % 8 * 2 + hd.val), by have := points2 t; omega⟩
      ⟨t.val / 128 * 8192 + t.val % 16 * 512 + r.val, by have := points2 t; omega⟩ d) := by
  have ht := points2 t
  blk_ext [iblk2, idx2 t]

include hb in
theorem read2_5 (t : Fin cfg2.N) (hd : Fin 2) (q : Fin 128) (k : Fin 640) :
    (iblk2 V c 5 t : Vec Ideal S2x128x640 .f32) (ix3 hd q k) = biasAt B ⟨t.val / 16 % 8 * 2 + hd.val, by omega⟩ q.val k.val := by
  rw [← hb]
  blk_ext [iblk2, idx2 t]

include hq in
theorem read2_6 (t : Fin cfg2.N) (d : Fin 128) :
    (iblk2 V c 6 t : Vec Ideal S1x128 .f32) (ix2 0 d) = wq (ix1 d) * Ideal.ofBits .f32 0x3DB504F3#32 := by
  rw [← hq]
  blk_ext [iblk2, idx2 t]

include hk in
theorem read2_7 (t : Fin cfg2.N) (d : Fin 128) : (iblk2 V c 7 t : Vec Ideal S1x128 .f32) (ix2 0 d) = wk (ix1 d) := by
  rw [← hk]
  blk_ext [iblk2, idx2 t]

include hb hq hk in
theorem blocks2 (t : Fin cfg2.N) :
    Blocks (V c main_v5) B wq wk
      (iblk2 V c 0 t) (iblk2 V c 1 t) (iblk2 V c 2 t) (iblk2 V c 3 t) (iblk2 V c 4 t) (iblk2 V c 5 t) (iblk2 V c 6 t) (iblk2 V c 7 t)
      ⟨t.val / 128, by have := points2 t; omega⟩ ⟨t.val / 16 % 8, by omega⟩ ⟨t.val % 16, by omega⟩ :=
  ⟨read2_0 V c t, read2_1 V c t, read2_2 V c t, read2_3 V c t, read2_4 V c t, read2_5 V c B hb t, read2_6 V c wq hq t, read2_7 V c wk hk t⟩

/-- A row and a column of the attention by batch, head pair, tile, head and row of the tile. -/
theorem cell_eq (P : FVec Ideal S112x16384x128 .bf16) (n : Fin 16384) (j : Fin 2048) (b : Fin 2) (g : Fin 8) (tt : Fin 16) (hd : Fin 2) (r : Fin 512)
    (d : Fin 128) (hn : n.val = b.val * 8192 + tt.val * 512 + r.val) (hj : j.val = g.val * 256 + hd.val * 128 + d.val) :
    cell P B wq wk n j = ∑ k, Ideal.div (Ideal.exp (bandScores P B wq wk b g tt hd r k - Finset.univ.fold max ⊥ (bandScores P B wq wk b g tt hd r)))
      (Cert.Band.den (bandScores P B wq wk b g tt hd r)) * bandVals P b g tt hd r d k := by
  have e0 : (⟨n.val / 8192, by omega⟩ : Fin 2) = b := Fin.ext (by dsimp only; omega)
  have e1 : (⟨j.val / 128, by omega⟩ : Fin 16) = ⟨g.val * 2 + hd.val, by omega⟩ := Fin.ext (by dsimp only; omega)
  have e2 : (⟨n.val % 8192 / 64, by omega⟩ : Fin 128) = ⟨tt.val * 8 + r.val / 64, by omega⟩ := Fin.ext (by dsimp only; omega)
  have e3 : (⟨n.val % 64, by omega⟩ : Fin 64) = ⟨r.val % 64, by omega⟩ := Fin.ext (by dsimp only; omega)
  have e4 : (⟨j.val % 128, by omega⟩ : Fin 128) = d := Fin.ext (by dsimp only; omega)
  unfold cell bandScores bandVals
  rw [e0, e1, e2, e3, e4]

section finite

variable (rB : ∀ i, IsReal (B i)) (rq : ∀ d, IsReal (wq d)) (rk : ∀ d, IsReal (wk d))

include hb hq hk rB rq rk in
theorem point2 (t : Fin cfg2.N) (y : S512x256.Idx) (n : Fin 16384) (j : Fin 2048)
    (hn : n.val = (t.val / 128 * 16 + t.val % 16) * 512 + (y 0).val) (hj : j.val = t.val / 16 % 8 * 256 + (y 1).val) :
    out2_8 (F := Ideal) (grid2.coords t) (iblk2 V c 0 t) (iblk2 V c 1 t) (iblk2 V c 2 t) (iblk2 V c 3 t) (iblk2 V c 4 t) (iblk2 V c 5 t)
      (iblk2 V c 6 t) (iblk2 V c 7 t) y = cell (V c main_v5) B wq wk n j := by
  have ht := points2 t
  have hy0 : (y 0).val < 512 := (y 0).isLt
  have hy1 : (y 1).val < 256 := (y 1).isLt
  rw [out_same]
  refine (out_at _ _ _ _ _ _ _ _ _ ⟨t.val % 16, by omega⟩ (tile_coord2 t) _).trans ?_
  refine (row_eq _ _ _ _ _ _ _ _ _ _ _ _ _ _ _ (blocks2 V c B wq wk hb hq hk t) _ _ _ rB rq rk).trans ?_
  refine (cell_eq B wq wk (V c main_v5) n j _ _ _ _ _ _ ?_ ?_).symm
  · show n.val = t.val / 128 * 8192 + t.val % 16 * 512 + (y 0).val
    omega
  · show j.val = t.val / 16 % 8 * 256 + (y 1).val / 128 * 128 + (y 1).val % 128
    omega

include hb hq hk rB rq rk in
/-- What the attention leaves. -/
theorem final2 : (dat2 V c).arrAt 8 cfg2.N = fun i : S16384x2048.Idx => cell (V c main_v5) B wq wk (i 0) (i 1) := by
  refine (dat2 V c).arrAt_eq_of_covers 8 _ (by decide +kernel) fun t _ y => ?_
  blk_simp
  rw [after2_8]
  refine point2 V c B wq wk hb hq hk rB rq rk t y _ _ ?_ ?_
  · blk_simp [idx2 t]
  · blk_simp [idx2 t]

end finite

end Cert.Mix

end
-- ==== Proof.MixHost.lean ====
/- What the host lines of the mixing half leave in the operands of its calls, from the contents they start with. -/
module

public import proofs.«01_k».proof.Proof.Bias
public import proofs.«01_k».proof.Proof.Gen.MixerIdeal.Frame
public import Idealize.ShloMosaic.Lib.Pipeline.ValueKit

@[expose] public section

set_option maxRecDepth 16384

noncomputable section

namespace Cert.Mix

open Idealize.ShloMosaic Idealize.ShloMosaic.TcCoe Idealize.SL.Sem
open Cert.MixerIdeal Cert.MixerIdeal.Gen
open Cert.Band (lit_at blockWord block_word biasAt masked_gather)

variable (U : Valuation τ sig (Elt Ideal))

/-- The lines between the input projection and the attention. -/
def prepared : Valuation τ sig (Elt Ideal) :=
  StableHlo.after hostOps2_6 (StableHlo.after hostOps2_5 (StableHlo.after hostOps2_4 (StableHlo.after hostOps2_3
    (StableHlo.after hostOps2_2 (StableHlo.after hostOps2_1 (StableHlo.after hostOps2 U))))))

theorem kw_host (d : Fin 128) : (prepared U (Proc.devRef .tc main_v37) : FVec Ideal S1x128 .f32) (ix2 0 d) =
    (U (Proc.devRef .tc main_arg4) : FVec Ideal S128 .f32) (ix1 d) := by
  simp only [prepared, hostOps2, hostOps2_1, hostOps2_2, hostOps2_3, hostOps2_4, hostOps2_5, hostOps2_6]
  entry_read
  pointwise

/-- The query's norm weight. -/
def queryW (d : Fin 128) : EReal := U (Proc.devRef .tc main_arg3) (ix1 d)

theorem qw_host (d : Fin 128) : (prepared U (Proc.devRef .tc main_v36) : FVec Ideal S1x128 .f32) (ix2 0 d) =
    queryW U d * Ideal.ofBits .f32 0x3DB504F3#32 := by
  unfold queryW
  simp only [prepared, hostOps2, hostOps2_1, hostOps2_2, hostOps2_3, hostOps2_4, hostOps2_5, hostOps2_6]
  entry_read
  pointwise

/-- The table of clipped distances is the attention's alone. -/
theorem lit_at' : ∀ j : Fin 768, min (lit0 j).toInt.toNat 512 = if j.val < 640 then min 512 (768 - j.val) else 512 := by
  decide +kernel

theorem bias_host (hc : (U (Proc.devRef .tc main_c) : IVec S768 32) = fun i => lit0 (S768.rowMajor i))
    (h0 : (U (Proc.devRef .tc main_c_0) : IVec S768 1) = constantI S768 1 0#1) (h : Fin 16) (q : Fin 128) (k : Fin 640) :
    (prepared U (Proc.devRef .tc main_v33) : FVec Ideal S16x128x640 .f32) (ix3 h q k) =
      biasAt (U (Proc.devRef .tc main_arg5) : FVec Ideal S16x513 .f32) h q.val k.val := by
  have hL := lit_at'
  revert hc hL
  generalize lit0 = L
  intro hc hL
  simp only [prepared, hostOps2, hostOps2_1, hostOps2_2, hostOps2_3, hostOps2_4, hostOps2_5, hostOps2_6]
  entry_read
  simp only [StableHlo.TRef.ofBuf, StableHlo.TRef.toBuf, cast_eq, cast_cast]
  rw [hc, h0]
  pointwise
  refine masked_gather (U (Proc.devRef .tc main_arg5) : FVec Ideal S16x513 .f32) _ h _ _ q.val k.val q.isLt k.isLt rfl ?_ ?_
  · have e1 : blockWord (BitVec.ofNat 32 q.val) = BitVec.ofNat 32 (q.val / 64) := block_word ⟨q.val, by omega⟩
    rw [← e1, ← block_word k]
    rfl
  · have hi : (broadcastInDim S768x1 ![0] bcast_S768_S768x1_0
          (select (constantI S768 1 0#1)
            (addi (fun i => L (S768.rowMajor i)) (broadcastInDim S768 ![] bcast_S_S768 (constantI S_ 32 513#32)))
            fun i => L (S768.rowMajor i))) (ix2 ⟨(q.val * 767 + k.val) % 768, Nat.mod_lt _ (by omega)⟩ 0) =
      L ⟨(q.val * 767 + k.val) % 768, Nat.mod_lt _ (by omega)⟩ := by
      pointwise
      exact congrArg L (Fin.ext (rowMajor_val1 _))
    refine (congrArg (fun w : BitVec 32 => min w.toInt.toNat 512) hi).trans (hL _)

/-- The lines before the first norm. -/
def started : Valuation τ sig (Elt Ideal) := StableHlo.after hostOps0 U

theorem table_host : (started U (Proc.devRef .tc main_c) : IVec S768 32) = fun i => lit0 (S768.rowMajor i) := by
  simp only [started, hostOps0]
  entry_read
  rfl

theorem mask_host : (started U (Proc.devRef .tc main_c_0) : IVec S768 1) = constantI S768 1 0#1 := by
  simp only [started, hostOps0]
  entry_read
  rfl

theorem rows_host (n : Fin 16384) (k : Fin 4096) : (started U (Proc.devRef .tc main_v0) : FVec Ideal S16384x4096 .f32) (ix2 n k) =
    (U (Proc.devRef .tc main_arg0) : FVec Ideal S2x8192x4096 .f32) (ix3 ⟨n.val / 8192, by omega⟩ ⟨n.val % 8192, by omega⟩ k) := by
  simp only [started, hostOps0]
  entry_read
  pointwise

theorem win_host (e : Fin 14336) (k : Fin 4096) : (started U (Proc.devRef .tc main_v2) : FVec Ideal S14336x4096 .f32) (ix2 e k) =
    (U (Proc.devRef .tc main_arg2) : FVec Ideal S4096x14368 .f32) (ix2 k ⟨e.val, by omega⟩) := by
  simp only [started, hostOps0]
  entry_read
  pointwise

theorem weight_host (k : Fin 4096) : (started U (Proc.devRef .tc main_v3) : FVec Ideal S1x4096 .f32) (ix2 0 k) =
    (U (Proc.devRef .tc main_arg1) : FVec Ideal S4096 .f32) (ix1 k) := by
  simp only [started, hostOps0]
  entry_read
  pointwise

/-- The line before the output projection. -/
def joinedLine : Valuation τ sig (Elt Ideal) := StableHlo.after hostOps3 U

theorem delta_host (n : Fin 16384) (k : Fin 2048) : (joinedLine U (Proc.devRef .tc main_v39) : FVec Ideal S16384x2048 .bf16) (ix2 n k) =
    (U (Proc.devRef .tc main_arg6) : FVec Ideal S2x8192x2048 .bf16) (ix3 ⟨n.val / 8192, by omega⟩ ⟨n.val % 8192, by omega⟩ k) := by
  simp only [joinedLine, hostOps3]
  entry_read
  pointwise

end Cert.Mix

end
-- ==== Proof.MixRun.lean ====
/- The launch of the mixing half: the result array ends at what the last call's pipeline leaves in it. -/
module

public import proofs.«01_k».proof.Proof.Gen.MixerIdeal.Frame
public import Idealize.ShloMosaic.Lib.Pipeline.ValueKit

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal Cert.MixerIdeal.Gen

variable {F : FTy → Type} [FloatOps F] [Named F]
variable (m : (ℓ : Loc nD τ sig) → Buf (Elt F) ℓ) (ρ : Dev nD → PrngReg)

set_option backward.isDefEq.respectTransparency.types false in
/-- Every execution ends, with the result array as the last call leaves it and the arguments as launched: the launch of the
    frame, its result buffer read as well. -/
theorem run : θ_run defs (onTc (τ := τ) (main (F := F))) ⟨m, fun _ => 0, ρ⟩ (fun r => ∀ c : Dev nD,
      r.2.mem ((c.tc : Thread nD τ).loc main_v40) = (dat3 (V12 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => (fun c =>
      ⟨(h c _ (mem_uc main_v40 (by decide))).trans (W13_arr m ρ c 5),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩))

end Cert.Mix

end
-- ==== Proof.MixFinal.lean ====
/- The mixing half's result array, from its arguments: the contents of the buffers followed through the four calls and the
   host lines between them. -/
module

public import proofs.«01_k».proof.Proof.MixCalls
public import proofs.«01_k».proof.Proof.MixBand
public import proofs.«01_k».proof.Proof.MixHost
public import proofs.«01_k».proof.Proof.MixRun

@[expose] public section

set_option maxRecDepth 16384

noncomputable section

namespace Cert.Mix

open Idealize.ShloMosaic Idealize.ShloMosaic.TcCoe Idealize.SL.Sem
open Cert.MixerIdeal Cert.MixerIdeal.Gen
open Cert.MixRef (cell hidden projected layout half half_at hidden_at projected_at)
open Cert.FirstNorm (normAt)
open Cert.Band (IsReal)

variable (m : (ℓ : Loc nD τ sig) → Buf (Elt Ideal) ℓ) (ρ : Dev nD → PrngReg) (c : Dev nD)

/-- The activations. -/
def aX : FVec Ideal S2x8192x4096 .f32 := m ((c : Thread nD τ).loc main_arg0)
/-- The first norm's weight. -/
def aN : FVec Ideal S4096 .f32 := m ((c : Thread nD τ).loc main_arg1)
/-- The input projection's weight. -/
def aW : FVec Ideal S4096x14368 .f32 := m ((c : Thread nD τ).loc main_arg2)
/-- The query's norm weight. -/
def aQ : FVec Ideal S128 .f32 := m ((c : Thread nD τ).loc main_arg3)
/-- The key's norm weight. -/
def aK : FVec Ideal S128 .f32 := m ((c : Thread nD τ).loc main_arg4)
/-- The relative-position bias. -/
def aB : FVec Ideal S16x513 .f32 := m ((c : Thread nD τ).loc main_arg5)
/-- The delta rule's output. -/
def aY : FVec Ideal S2x8192x2048 .bf16 := m ((c : Thread nD τ).loc main_arg6)
/-- The output projection's weight. -/
def aO : FVec Ideal S4096x4096 .f32 := m ((c : Thread nD τ).loc main_arg7)

theorem normed_states (n : Fin 16384) (k : Fin 4096) : (V2 m ρ c main_v4 : FVec Ideal S16384x4096 .bf16) (ix2 n k) =
    hidden (aX m c) (aN m c) (ix3 ⟨n.val / 8192, by omega⟩ ⟨n.val % 8192, by omega⟩ k) := by
  have e : (V2 m ρ c main_v4 : FVec Ideal S16384x4096 .bf16) = fun i : S16384x4096.Idx => rowNorm (V1 m ρ c main_v0) (V1 m ρ c main_v3) (i 0) (i 1) :=
    (W2_arr m ρ c 2).trans (final0 (V1 m ρ) c)
  rw [e, hidden_at]
  show rowNorm (V1 m ρ c main_v0) (V1 m ρ c main_v3) n k = _
  unfold rowNorm
  exact congrArg₂ (fun f w => normAt f w k) (funext fun j => rows_host (W0 m ρ c) n j) (weight_host (W0 m ρ c) k)

theorem weight_in (e : Fin 14336) (k : Fin 4096) : (V2 m ρ c main_v2 : FVec Ideal S14336x4096 .f32) (ix2 e k) = aW m c (ix2 k ⟨e.val, by omega⟩) := by
  have h : (V2 m ρ c main_v2 : FVec Ideal S14336x4096 .f32) = V1 m ρ c main_v2 := W2_of m ρ c main_v2 (by decide)
  rw [h]
  exact win_host (W0 m ρ c) e k

theorem projection : (V3 m ρ c main_v5 : FVec Ideal S112x16384x128 .bf16) = layout (projected (hidden (aX m c) (aN m c)) (aW m c)) := by
  have e : (V3 m ρ c main_v5 : FVec Ideal S112x16384x128 .bf16) = fun i : S112x16384x128.Idx => rowProj (V2 m ρ c main_v4) (V2 m ρ c main_v2) (i 0) (i 1) (i 2) :=
    (W3_arr m ρ c 2).trans (final1 (V2 m ρ) c)
  rw [e]
  funext i
  obtain ⟨b, n, d, rfl⟩ : ∃ (b : Fin 112) (n : Fin 16384) (d : Fin 128), i = ix3 b n d :=
    ⟨i 0, i 1, i 2, by funext a; match a with | ⟨0, _⟩ => rfl | ⟨1, _⟩ => rfl | ⟨2, _⟩ => rfl⟩
  show rowProj (V2 m ρ c main_v4) (V2 m ρ c main_v2) b n d =
    projected (hidden (aX m c) (aN m c)) (aW m c) (ix3 ⟨n.val / 8192, by omega⟩ ⟨n.val % 8192, by omega⟩ ⟨b.val * 128 + d.val, by omega⟩)
  rw [projected_at]
  unfold rowProj
  exact Finset.sum_congr rfl fun k _ => by rw [normed_states, weight_in]

/-- A buffer that neither of the first two calls writes, as the first host lines leave it. -/
theorem kept (r : Ref sig .tc) (h3 : ∀ w : Fin cfg1.W, Pipeline.arrRef spec1 w = r → (cfg1.win w).isOut = false)
    (h2 : ∀ w : Fin cfg0.W, Pipeline.arrRef spec0 w = r → (cfg0.win w).isOut = false) :
    W3 m ρ c (Proc.devRef .tc r) = started (W0 m ρ c) (Proc.devRef .tc r) :=
  (W3_of m ρ c r h3).trans (W2_of m ρ c r h2)

theorem prep_bias (h : Fin 16) (q : Fin 128) (k : Fin 640) :
    (V10 m ρ c main_v33 : FVec Ideal S16x128x640 .f32) (ix3 h q k) = Cert.Band.biasAt (aB m c) h q.val k.val := by
  have e := bias_host (W3 m ρ c) ((kept m ρ c main_c (by decide) (by decide)).trans (table_host _))
    ((kept m ρ c main_c_0 (by decide) (by decide)).trans (mask_host _)) h q k
  rw [W3_args m ρ c main_arg5 (by decide)] at e
  exact e

theorem prep_query (d : Fin 128) : (V10 m ρ c main_v36 : FVec Ideal S1x128 .f32) (ix2 0 d) = aQ m c (ix1 d) * Ideal.ofBits .f32 0x3DB504F3#32 := by
  have e := qw_host (W3 m ρ c) d
  unfold queryW at e
  rw [W3_args m ρ c main_arg3 (by decide)] at e
  exact e

theorem prep_key (d : Fin 128) : (V10 m ρ c main_v37 : FVec Ideal S1x128 .f32) (ix2 0 d) = aK m c (ix1 d) := by
  have e := kw_host (W3 m ρ c) d
  rw [W3_args m ρ c main_arg4 (by decide)] at e
  exact e

/-- The host lines between the calls leave a buffer that they don't write. -/
theorem across (r : Ref sig .tc) (h : r ∉ hostOps2_W) (h1 : r ∉ hostOps2_1_W) (h2 : r ∉ hostOps2_2_W) (h3 : r ∉ hostOps2_3_W)
    (h4 : r ∉ hostOps2_4_W) (h5 : r ∉ hostOps2_5_W) (h6 : r ∉ hostOps2_6_W) :
    W10 m ρ c (Proc.devRef .tc r) = W3 m ρ c (Proc.devRef .tc r) :=
  (W10_of m ρ c r h6).trans ((W9_of m ρ c r h5).trans ((W8_of m ρ c r h4).trans ((W7_of m ρ c r h3).trans ((W6_of m ρ c r h2).trans
    ((W5_of m ρ c r h1).trans (W4_of m ρ c r h))))))

section finite

variable (rB : ∀ i, IsReal (aB m c i)) (rq : ∀ d, IsReal (aQ m c d)) (rk : ∀ d, IsReal (aK m c d))

include rB rq rk in
theorem attended (n : Fin 16384) (k : Fin 2048) : (V12 m ρ c main_v38 : FVec Ideal S16384x2048 .bf16) (ix2 n k) =
    cell (layout (projected (hidden (aX m c) (aN m c)) (aW m c))) (aB m c) (aQ m c) (aK m c) n k := by
  have e4 : (V10 m ρ c main_v5 : FVec Ideal S112x16384x128 .bf16) = layout (projected (hidden (aX m c) (aN m c)) (aW m c)) :=
    (across m ρ c main_v5 (by decide) (by decide) (by decide) (by decide) (by decide) (by decide) (by decide)).trans (projection m ρ c)
  have e : (V12 m ρ c main_v38 : FVec Ideal S16384x2048 .bf16) = fun i : S16384x2048.Idx =>
      cell (V10 m ρ c main_v5) (aB m c) (aQ m c) (aK m c) (i 0) (i 1) :=
    (W12_of m ρ c main_v38 (by decide)).trans ((W11_arr m ρ c 8).trans
      (final2 (V10 m ρ) c (aB m c) (aQ m c) (aK m c) (prep_bias m ρ c) (prep_query m ρ c) (prep_key m ρ c) rB rq rk))
  rw [e, e4]
  rfl

theorem delta (n : Fin 16384) (k : Fin 2048) : (V12 m ρ c main_v39 : FVec Ideal S16384x2048 .bf16) (ix2 n k) =
    aY m c (ix3 ⟨n.val / 8192, by omega⟩ ⟨n.val % 8192, by omega⟩ k) := by
  have e := delta_host (W11 m ρ c) n k
  rw [W11_args m ρ c main_arg6 (by decide)] at e
  exact e

theorem weight_out : (V12 m ρ c main_arg7 : FVec Ideal S4096x4096 .f32) = aO m c := W12_args m ρ c main_arg7 (by decide)

theorem residual (n : Fin 16384) (k : Fin 4096) : (V12 m ρ c main_v0 : FVec Ideal S16384x4096 .f32) (ix2 n k) =
    aX m c (ix3 ⟨n.val / 8192, by omega⟩ ⟨n.val % 8192, by omega⟩ k) := by
  have e : (V12 m ρ c main_v0 : FVec Ideal S16384x4096 .f32) = started (W0 m ρ c) (Proc.devRef .tc main_v0) :=
    (W12_of m ρ c main_v0 (by decide)).trans ((W11_of m ρ c main_v0 (by decide)).trans
      ((across m ρ c main_v0 (by decide) (by decide) (by decide) (by decide) (by decide) (by decide) (by decide)).trans
        (kept m ρ c main_v0 (by decide) (by decide))))
  rw [e]
  exact rows_host (W0 m ρ c) n k

include rB rq rk in
/-- The result array is the reference's term of the arguments. -/
theorem result : (dat3 (V12 m ρ) c).arrAt 5 cfg3.N = half (aX m c) (aN m c) (aW m c) (aQ m c) (aK m c) (aB m c) (aY m c) (aO m c) := by
  rw [final3 (V12 m ρ) c]
  funext i
  obtain ⟨n, j, rfl⟩ : ∃ (n : Fin 16384) (j : Fin 4096), i = ix2 n j := ⟨i 0, i 1, by funext a; match a with | ⟨0, _⟩ => rfl | ⟨1, _⟩ => rfl⟩
  rw [half_at]
  show rowMixed (V12 m ρ c main_v38) (V12 m ρ c main_v39) (V12 m ρ c main_arg7) (V12 m ρ c main_v0) n j = _
  unfold rowMixed
  rw [residual, weight_out]
  refine congrArg₂ (· + ·) rfl (congrArg₂ (· + ·) ?_ ?_)
  · exact Finset.sum_congr rfl fun k _ => by rw [attended m ρ c rB rq rk]
  · exact Finset.sum_congr rfl fun k _ => by rw [delta]

end finite

end Cert.Mix

end
-- ==== Proof.GatesRef.lean ====
/- The gates' reference: a sigmoid of one projection, and of another the decay's running sums in chunks of 64 rows. -/
module

public import proofs.«01_k».proof.Proof.Gen.GatesReferenceIdeal.Run
public import Idealize.ShloMosaic.Lib.Pipeline.ValueKit

@[expose] public section

set_option maxRecDepth 16384

noncomputable section

namespace Cert.Gate

open Idealize.ShloMosaic Idealize.ShloMosaic.TcCoe Idealize.SL.Sem

/-- The decay of an entry, from the rate `a` and the projected value `z`. -/
def decay (a z : EReal) : EReal := (0 - a) * (max z 0 + Ideal.log1p (Ideal.exp (0 - max z (-z))))

/-- Row `e` of the gates' weight, padded to 128 rows: the projection's columns from 14336 on. -/
def column (W : Fin 4096 → Fin 14368 → EReal) (e : Fin 128) (k : Fin 4096) : EReal :=
  if h : e.val < 32 then W k ⟨14336 + e.val, by omega⟩ else 0

/-- The decay's rate, in the lanes 16 to 31. -/
def rate (A : Fin 16 → EReal) (e : Fin 128) : EReal :=
  if h : 16 ≤ e.val ∧ e.val < 32 then Ideal.exp (A ⟨e.val - 16, by omega⟩) else 0

/-- The decay's offset, in the same lanes. -/
def offset (D : Fin 16 → EReal) (e : Fin 128) : EReal :=
  if h : 16 ≤ e.val ∧ e.val < 32 then D ⟨e.val - 16, by omega⟩ else 0

variable (H : Fin 16384 → Fin 4096 → EReal) (W : Fin 4096 → Fin 14368 → EReal) (A D : Fin 16 → EReal)

/-- The decay of row `n` in lane `e`. -/
def decayAt (n : Nat) (e : Fin 128) : EReal :=
  decay (rate A e) ((∑ k, H ⟨n % 16384, Nat.mod_lt _ (by omega)⟩ k * column W e k) + offset D e)

/-- Row `n`, lane `e` of the gates: 16 lanes of sigmoids, then 16 of decays summed over the chunk's rows up to `n`, then zeros. -/
def gateAt (n : Fin 16384) (e : Fin 128) : EReal :=
  if e.val < 16 then Ideal.logistic (∑ k, H n k * column W e k)
  else ∑ j ∈ Finset.range (n.val % 64 + 1), decayAt H W A D (n.val - j) e

theorem row_mod (n : Fin 16384) : (⟨n.val % 16384, Nat.mod_lt _ (by omega)⟩ : Fin 16384) = n := Fin.ext (Nat.mod_eq_of_lt n.isLt)

theorem gate_low (n : Fin 16384) (e : Fin 128) (h : e.val < 16) :
    gateAt H W A D n e = Ideal.logistic (∑ k, H n k * W k ⟨14336 + e.val, by omega⟩) := by
  unfold gateAt column
  rw [if_pos h]
  refine congrArg Ideal.logistic (Finset.sum_congr rfl fun k _ => ?_)
  rw [dif_pos (by omega)]

theorem gate_mid (n : Fin 16384) (e : Fin 16) :
    gateAt H W A D n ⟨16 + e.val, by omega⟩ = ∑ j ∈ Finset.range (n.val % 64 + 1),
      decay (Ideal.exp (A e)) ((∑ k, H ⟨(n.val - j) % 16384, Nat.mod_lt _ (by omega)⟩ k * W k ⟨14352 + e.val, by omega⟩) + D e) := by
  unfold gateAt
  rw [if_neg (by dsimp only; omega)]
  refine Finset.sum_congr rfl fun j _ => ?_
  unfold decayAt
  have e1 : rate A ⟨16 + e.val, by omega⟩ = Ideal.exp (A e) := by
    unfold rate
    rw [dif_pos ⟨by dsimp only; omega, by dsimp only; omega⟩]
    exact congrArg (fun i => Ideal.exp (A i)) (Fin.ext (by dsimp only; omega))
  have e2 : offset D ⟨16 + e.val, by omega⟩ = D e := by
    unfold offset
    rw [dif_pos ⟨by dsimp only; omega, by dsimp only; omega⟩]
    exact congrArg D (Fin.ext (by dsimp only; omega))
  rw [e1, e2]
  refine congrArg (fun s => decay (Ideal.exp (A e)) (s + D e)) (Finset.sum_congr rfl fun k _ => ?_)
  unfold column
  rw [dif_pos (by dsimp only; omega)]
  exact congrArg (fun i => _ * W k i) (Fin.ext (by dsimp only; omega))

theorem gate_high (n : Fin 16384) (e : Fin 128) (h : 32 ≤ e.val) : gateAt H W A D n e = 0 := by
  unfold gateAt
  rw [if_neg (by omega)]
  refine Finset.sum_eq_zero fun j _ => ?_
  unfold decayAt decay rate
  rw [dif_neg (by omega), sub_zero, zero_mul]

namespace Ref

open Cert.GatesReferenceIdeal Cert.GatesReferenceIdeal.Gen

theorem foldl_sum {ι : Type} (l : List ι) (f : ι → EReal) (v : EReal) : l.foldl (fun r n => r + f n) v = v + (l.map f).sum := by
  induction l generalizing v with
  | nil => simp
  | cons a t ih => simp only [List.foldl_cons, ih, List.map_cons, List.sum_cons, add_assoc]

/-- The places of the window, by their number in it. -/
def windowPlaces : Fin 64 ≃ (⟨3, ![1, 64, 1]⟩ : Shape).Idx where
  toFun k := ix3 (0 : Fin 1) k (0 : Fin 1)
  invFun w := w 1
  left_inv _ := rfl
  right_inv w := by
    funext a
    match a with
    | ⟨0, _⟩ => exact Subsingleton.elim (α := Fin 1) _ _
    | ⟨1, _⟩ => rfl
    | ⟨2, _⟩ => exact Subsingleton.elim (α := Fin 1) _ _

/-- The sum of a chunk's rows up to a row, as the reference's window takes it. -/
theorem window_sum (x : FVec Ideal S256x64x16 .f32) (v : FVec Ideal S_ .f32) (hv : v (Shape.Idx.first h_S_) = 0)
    (b : Fin 256) (i : Fin 64) (e : Fin 16) :
    Host.reduceWindowAdd ![1, 64, 1] ![1, 1, 1] ![0, 63, 0] ![0, 0, 0] x v reduceWindows_S256x64x16_S256x64x16_w1s1p0_0_w64s1p63_0_w1s1p0_0
      h_S_ (ix3 b i e) = ∑ j ∈ Finset.range (i.val + 1), x (ix3 b ⟨(i.val - j) % 64, Nat.mod_lt _ (by omega)⟩ e) := by
  have hb := b.isLt
  have hi := i.isLt
  have he := e.isLt
  unfold Host.reduceWindowAdd
  rw [Ideal.hostReduceWindowAdd_def]
  unfold Ideal.hostReduceWindowAdd Host.reduceWindow
  dsimp only
  refine (foldl_sum _ _ _).trans ?_
  rw [← Fin.sum_univ_def, ← Equiv.sum_comp (windowPlaces.trans (⟨3, ![1, 64, 1]⟩ : Shape).rowMajor)]
  simp only [Equiv.trans_apply, Equiv.symm_apply_apply, hv, zero_add]
  let G : Nat → EReal := fun j => if j ≤ i.val then x (ix3 b ⟨(i.val - j) % 64, Nat.mod_lt _ (by omega)⟩ e) else 0
  refine (Finset.sum_congr rfl (g := fun k : Fin 64 => G (64 - 1 - k.val)) fun k _ => ?_).trans ?_
  · have hk := k.isLt
    by_cases h : 63 ≤ i.val + k.val
    · refine (dif_pos fun a => ?_).trans (Eq.trans ?_ (if_pos (by omega)).symm)
      · match a with
        | ⟨0, _⟩ => show 0 ≤ b.val * 1 + 0 ∧ b.val * 1 + 0 - 0 < 256; omega
        | ⟨1, _⟩ => show 63 ≤ i.val * 1 + k.val ∧ i.val * 1 + k.val - 63 < 64; omega
        | ⟨2, _⟩ => show 0 ≤ e.val * 1 + 0 ∧ e.val * 1 + 0 - 0 < 16; omega
      · refine congrArg x (funext fun a => Fin.ext ?_)
        match a with
        | ⟨0, _⟩ => show b.val * 1 + 0 - 0 = b.val; omega
        | ⟨1, _⟩ => show i.val * 1 + k.val - 63 = (i.val - (64 - 1 - k.val)) % 64; omega
        | ⟨2, _⟩ => show e.val * 1 + 0 - 0 = e.val; omega
    · refine (dif_neg fun hin => h ?_).trans (if_neg (by omega)).symm
      have h1 : 63 ≤ i.val * 1 + k.val := (hin 1).1
      omega
  · rw [Fin.sum_univ_eq_sum_range (fun k => G (64 - 1 - k)) 64, Finset.sum_range_reflect,
      ← Finset.sum_subset (Finset.range_mono (by omega : i.val + 1 ≤ 64)) fun j _ hj => if_neg fun h => hj (Finset.mem_range.2 (by omega))]
    exact Finset.sum_congr rfl fun j hj => if_pos (by have := Finset.mem_range.1 hj; omega)

/-- A chunk's running sums. -/
def sums (g : FVec Ideal S16384x16 .f32) : FVec Ideal S16384x16 .f32 :=
  shapeCast _ (Host.reduceWindowAdd ![1, 64, 1] ![1, 1, 1] ![0, 63, 0] ![0, 0, 0] (shapeCast _ g shapeCasts_S16384x16_S256x64x16)
    (broadcastInDim S_ ![] bcast_S_S_ (constant S_ .f32 0x00000000#32)) reduceWindows_S256x64x16_S256x64x16_w1s1p0_0_w64s1p63_0_w1s1p0_0 h_S_)
    shapeCasts_S256x64x16_S16384x16

theorem sums_at (g : FVec Ideal S16384x16 .f32) (n : Fin 16384) (e : Fin 16) :
    sums g (ix2 n e) = ∑ j ∈ Finset.range (n.val % 64 + 1), g (ix2 ⟨(n.val - j) % 16384, Nat.mod_lt _ (by omega)⟩ e) := by
  have hz : (broadcastInDim S_ ![] bcast_S_S_ (constant S_ .f32 0x00000000#32) : FVec Ideal S_ .f32) (Shape.Idx.first h_S_) = 0 := by
    pointwise
  have h := window_sum (shapeCast _ g shapeCasts_S16384x16_S256x64x16) _ hz ⟨n.val / 64, by omega⟩ ⟨n.val % 64, by omega⟩ e
  refine Eq.trans ?_ (h.trans ?_)
  · unfold sums
    generalize Host.reduceWindowAdd (F := Ideal) _ _ _ _ _ _ _ _ = Y
    pointwise
  · refine Finset.sum_congr rfl fun j hj => ?_
    have hj' := Finset.mem_range.1 hj
    dsimp only at hj' ⊢
    pointwise
    exact congrArg g (congrArg (ix2 · e) (Fin.ext (by dsimp only; omega)))

/-- The decays before their sums. -/
def decs (z : FVec Ideal S16384x16 .f32) (A : FVec Ideal S16 .f32) : FVec Ideal S16384x16 .f32 :=
  (mulf (broadcastInDim S16384x16 ![0, 1] bcast_S1x16_S16384x16_0_1 (broadcastInDim S1x16 ![1] bcast_S16_S1x16_1 (Host.negf (Host.exp A)))) (select (cmpf .une (subf z (broadcastInDim S16384x16 ![] bcast_S_S16384x16 (constant S_ .f32 0x00000000#32))) (subf z (broadcastInDim S16384x16 ![] bcast_S_S16384x16 (constant S_ .f32 0x00000000#32)))) (addf z (broadcastInDim S16384x16 ![] bcast_S_S16384x16 (constant S_ .f32 0x00000000#32))) (addf (maximumf z (broadcastInDim S16384x16 ![] bcast_S_S16384x16 (constant S_ .f32 0x00000000#32))) (Host.log1p (Host.exp (Host.negf (Host.absf (subf z (broadcastInDim S16384x16 ![] bcast_S_S16384x16 (constant S_ .f32 0x00000000#32))))))))))

theorem decs_at (z : FVec Ideal S16384x16 .f32) (A : FVec Ideal S16 .f32) (n : Fin 16384) (e : Fin 16) :
    decs z A (ix2 n e) = decay (Ideal.exp (A (ix1 e))) (z (ix2 n e)) := by
  unfold decay decs
  pointwise
  rw [if_neg (fun h => h rfl), zero_sub, zero_sub]
  rfl

def proj (H : FVec Ideal S16384x4096 .bf16) (W : FVec Ideal S4096x14368 .f32) (D : FVec Ideal S16 .f32) : FVec Ideal S16384x16 .f32 :=
  addf (extractStridedSlice S16384x16 ![0, 14352] (Host.dotGeneral dot_S16384x4096_S4096x14368_S16384x14368_1_0_0_1_n_n none (extf .f32 H bitsLt_bf16_f32) W) slices_S16384x14368_S16384x16_0_14352) (broadcastInDim S16384x16 ![0, 1] bcast_S1x16_S16384x16_0_1 (broadcastInDim S1x16 ![1] bcast_S16_S1x16_1 D))

theorem proj_at (H : FVec Ideal S16384x4096 .bf16) (W : FVec Ideal S4096x14368 .f32) (D : FVec Ideal S16 .f32) (n : Fin 16384) (e : Fin 16) :
    proj H W D (ix2 n e) = (∑ k : Fin 4096, H (ix2 n k) * W (ix2 k ⟨14352 + e.val, by omega⟩)) + D (ix1 e) := by
  pointwise [proj]

def betas (H : FVec Ideal S16384x4096 .bf16) (W : FVec Ideal S4096x14368 .f32) : FVec Ideal S16384x16 .f32 :=
  Host.divf (broadcastInDim S16384x16 ![] bcast_S_S16384x16 (constant S_ .f32 0x3F800000#32)) (addf (broadcastInDim S16384x16 ![] bcast_S_S16384x16 (constant S_ .f32 0x3F800000#32)) (Host.exp (Host.negf (extractStridedSlice S16384x16 ![0, 14336] (Host.dotGeneral dot_S16384x4096_S4096x14368_S16384x14368_1_0_0_1_n_n none (extf .f32 H bitsLt_bf16_f32) W) slices_S16384x14368_S16384x16_0_14336))))

theorem betas_at (H : FVec Ideal S16384x4096 .bf16) (W : FVec Ideal S4096x14368 .f32) (n : Fin 16384) (e : Fin 16) :
    betas H W (ix2 n e) = Ideal.logistic (∑ k : Fin 4096, H (ix2 n k) * W (ix2 k ⟨14336 + e.val, by omega⟩)) := by
  unfold Ideal.logistic
  pointwise [betas]

theorem side (x y : FVec Ideal S16384x16 .f32) (n : Fin 16384) (e : Fin 128) :
    concatenate S16384x128 1 [⟨S16384x16, x⟩, ⟨S16384x16, y⟩, ⟨S16384x96, ((broadcastInDim S16384x96 ![] bcast_S_S16384x96 (constant S_ .f32 0x00000000#32)) : FVec Ideal S16384x96 .f32)⟩]
      concatenates_S16384x16_S16384x16_S16384x96_S16384x128_d1 (ix2 n e) =
    if h : e.val < 16 then x (ix2 n ⟨e.val, h⟩) else if h' : e.val < 32 then y (ix2 n ⟨e.val - 16, by omega⟩) else (0 : EReal) := by
  pointwise
  by_cases h1 : e.val < 16
  · rw [dif_pos h1, dif_pos h1]
  · rw [dif_neg h1, dif_neg h1]
    by_cases h2 : e.val < 32
    · rw [dif_pos h2, dif_pos (by omega)]
    · rw [dif_neg h2, dif_neg (by omega)]

/-- The gates, row `n` and lane `e`. -/
theorem at_ (H : FVec Ideal S16384x4096 .bf16) (W : FVec Ideal S4096x14368 .f32) (A D : FVec Ideal S16 .f32) (n : Fin 16384) (e : Fin 128) :
    concatenate S16384x128 1 [⟨S16384x16, betas H W⟩, ⟨S16384x16, sums (decs (proj H W D) A)⟩,
      ⟨S16384x96, ((broadcastInDim S16384x96 ![] bcast_S_S16384x96 (constant S_ .f32 0x00000000#32)) : FVec Ideal S16384x96 .f32)⟩]
      concatenates_S16384x16_S16384x16_S16384x96_S16384x128_d1 (ix2 n e) =
    gateAt (fun n k => H (ix2 n k)) (fun k j => W (ix2 k j)) (fun i => A (ix1 i)) (fun i => D (ix1 i)) n e := by
  rw [side]
  by_cases h1 : e.val < 16
  · rw [dif_pos h1, betas_at, gate_low _ _ _ _ n e h1]
  · rw [dif_neg h1]
    by_cases h2 : e.val < 32
    · rw [dif_pos h2]
      have ee : e = ⟨16 + (⟨e.val - 16, by omega⟩ : Fin 16).val, by dsimp only; omega⟩ := Fin.ext (by dsimp only; omega)
      refine Eq.trans ?_ (congrArg (gateAt _ _ _ _ n) ee).symm
      rw [sums_at, gate_mid]
      refine Finset.sum_congr rfl fun j _ => ?_
      rw [decs_at, proj_at]
    · rw [dif_neg h2, gate_high _ _ _ _ n e (by omega)]

/-- The summed decays, transposed. -/
theorem turned (H : FVec Ideal S16384x4096 .bf16) (W : FVec Ideal S4096x14368 .f32) (A D : FVec Ideal S16 .f32) (n : Fin 16384) (e : Fin 16) :
    transpose S16x16384 [1, 0] (sums (decs (proj H W D) A)) transposes_S16384x16_S16x16384_1_0 (ix2 e n) =
    gateAt (fun n k => H (ix2 n k)) (fun k j => W (ix2 k j)) (fun i => A (ix1 i)) (fun i => D (ix1 i)) n ⟨16 + e.val, by omega⟩ := by
  have h : transpose S16x16384 [1, 0] (sums (decs (proj H W D) A)) transposes_S16384x16_S16x16384_1_0 (ix2 e n) =
      sums (decs (proj H W D) A) (ix2 n e) := by
    generalize sums (decs (proj H W D) A) = Y
    pointwise
  rw [h, sums_at, gate_mid]
  refine Finset.sum_congr rfl fun j _ => ?_
  rw [decs_at, proj_at]

end Ref

end Cert.Gate
end
-- ==== Proof.Gates.lean ====
/- The gates' kernel: a block of 1024 rows at a point, the decays summed in six doubling steps. -/
module

public import proofs.«01_k».proof.Proof.Gen.GatesIdeal.Value
public import proofs.«01_k».proof.Proof.GatesRef

@[expose] public section

set_option maxRecDepth 16384

noncomputable section

namespace Cert.Gate

open Idealize.ShloMosaic Idealize.ShloMosaic.TcCoe Idealize.SL.Sem

/-- One doubling of a running sum that restarts every 64 places. -/
theorem double_sum (s : Nat) (G X : Nat → EReal) (hX : ∀ r, X r = ∑ j ∈ Finset.range (min s (r % 64 + 1)), G (r - j)) (r : Nat) :
    (X r + if s ≤ r % 64 then X (r - s) else 0) = ∑ j ∈ Finset.range (min (s + s) (r % 64 + 1)), G (r - j) := by
  by_cases h : s ≤ r % 64
  · have h1 : (r - s) % 64 = r % 64 - s := by omega
    have h2 : min s (r % 64 + 1) = s := by omega
    have h3 : min (s + s) (r % 64 + 1) = s + min s ((r - s) % 64 + 1) := by omega
    rw [if_pos h, hX r, hX (r - s), h2, h3, Finset.sum_range_add]
    congr 1
    exact Finset.sum_congr rfl fun j _ => congrArg G (by omega)
  · have h2 : min s (r % 64 + 1) = min (s + s) (r % 64 + 1) := by omega
    rw [if_neg h, hX r, h2, add_zero]

open Cert.GatesIdeal Cert.GatesIdeal.Gen

variable (m : (ℓ : Loc nD τ sig) → Buf (Elt Ideal) ℓ) (c : Dev nD)

/-- A row's place in its chunk, as the body computes it. -/
def place : IVec S1024x128 32 := select (andi k0_pay8 k0_pay7) (addi k0_pay6 (broadcast S1024x128 (Scalar.select (Scalar.cmpi .eq 64#32 0#32) 1#32 64#32))) k0_pay6

/-- One doubling step. -/
def stage (b : BitVec 32) (X : FVec Ideal S1024x128 .f32) : FVec Ideal S1024x128 .f32 :=
  addf X (select (cmpi .sge place (broadcast S1024x128 b)) (dynamicRotate 0 b none X rotates_S1024x128_d0)
    (broadcast S1024x128 (Scalar.ofBits .f32 0x00000000#32)))

theorem steps (x : FVec Ideal S1024x128 .f32) (g : FVec Ideal S1024x128 .f32) :
    k0_pay9 x g k0_pay5 (Scalar.select (Scalar.cmpi .eq 64#32 0#32) 1#32 64#32) k0_pay6 k0_pay7 k0_pay8 =
      select k0_pay5 x (stage 32#32 (stage 16#32 (stage 8#32 (stage 4#32 (stage 2#32 (stage 1#32 g)))))) := rfl

theorem place_at (r : Fin 1024) (l : Fin 128) : place (ix2 r l) = BitVec.ofNat 32 (r.val % 64) := by
  have h : ∀ r : Fin 1024, Scalar.select (IntOp.andi (IntOp.xori (IntOp.cmpi .slt (IntOp.remsi .vector (BitVec.ofNat 32 r.val) 64#32) 0#32) 0#1)
    (IntOp.cmpi .ne (IntOp.remsi .vector (BitVec.ofNat 32 r.val) 64#32) 0#32)) (IntOp.addi (IntOp.remsi .vector (BitVec.ofNat 32 r.val) 64#32) 64#32)
    (IntOp.remsi .vector (BitVec.ofNat 32 r.val) 64#32) = BitVec.ofNat 32 (r.val % 64) := by decide +kernel
  refine Eq.trans ?_ (h r)
  pointwise [place, k0_pay6, k0_pay7, k0_pay8]
  rfl

/-- Whether a place is at least the step. -/
theorem far : ∀ p : Fin 64, IntOp.cmpi .sge (BitVec.ofNat 32 p.val) 1#32 = BitVec.ofBool (decide (1 ≤ p.val)) ∧
    IntOp.cmpi .sge (BitVec.ofNat 32 p.val) 2#32 = BitVec.ofBool (decide (2 ≤ p.val)) ∧
    IntOp.cmpi .sge (BitVec.ofNat 32 p.val) 4#32 = BitVec.ofBool (decide (4 ≤ p.val)) ∧
    IntOp.cmpi .sge (BitVec.ofNat 32 p.val) 8#32 = BitVec.ofBool (decide (8 ≤ p.val)) ∧
    IntOp.cmpi .sge (BitVec.ofNat 32 p.val) 16#32 = BitVec.ofBool (decide (16 ≤ p.val)) ∧
    IntOp.cmpi .sge (BitVec.ofNat 32 p.val) 32#32 = BitVec.ofBool (decide (32 ≤ p.val)) := by decide +kernel

theorem choose {p : Prop} [Decidable p] (a b : EReal) : Scalar.select (BitVec.ofBool (decide p)) a b = if p then a else b := by
  by_cases h : p <;> simp [h, Scalar.select]

/-- A step, from running sums of `s` rows to running sums of `2 s`: the rows are numbered, the columns apart. -/
theorem step_sum (b : BitVec 32) (s : Nat) (hs : s < 64) (X : FVec Ideal S1024x128 .f32) (l : Fin 128) (G : Nat → EReal)
    (hst : ∀ r : Fin 1024, stage b X (ix2 r l) = X (ix2 r l) + if s ≤ r.val % 64 then X (ix2 ⟨(r.val + 1024 - s) % 1024, Nat.mod_lt _ (by omega)⟩ l) else 0)
    (hX : ∀ r : Fin 1024, X (ix2 r l) = ∑ j ∈ Finset.range (min s (r.val % 64 + 1)), G (r.val - j)) (r : Fin 1024) :
    stage b X (ix2 r l) = ∑ j ∈ Finset.range (min (s + s) (r.val % 64 + 1)), G (r.val - j) := by
  rw [hst, ← double_sum s G (fun r => ∑ j ∈ Finset.range (min s (r % 64 + 1)), G (r - j)) (fun _ => rfl) r.val, hX r]
  congr 1
  by_cases h : s ≤ r.val % 64
  · rw [if_pos h, if_pos h, hX]
    have e : (r.val + 1024 - s) % 1024 = r.val - s := by omega
    simp only [e]
  · rw [if_neg h, if_neg h]

theorem stage1 (X : FVec Ideal S1024x128 .f32) (l : Fin 128) (r : Fin 1024) :
    stage 1#32 X (ix2 r l) = X (ix2 r l) + if 1 ≤ r.val % 64 then X (ix2 ⟨(r.val + 1024 - 1) % 1024, Nat.mod_lt _ (by omega)⟩ l) else 0 := by
  rw [← choose, ← (far ⟨r.val % 64, Nat.mod_lt _ (by omega)⟩).1, ← place_at r l]
  pointwise [stage]

theorem stage2 (X : FVec Ideal S1024x128 .f32) (l : Fin 128) (r : Fin 1024) :
    stage 2#32 X (ix2 r l) = X (ix2 r l) + if 2 ≤ r.val % 64 then X (ix2 ⟨(r.val + 1024 - 2) % 1024, Nat.mod_lt _ (by omega)⟩ l) else 0 := by
  rw [← choose, ← (far ⟨r.val % 64, Nat.mod_lt _ (by omega)⟩).2.1, ← place_at r l]
  pointwise [stage]

theorem stage4 (X : FVec Ideal S1024x128 .f32) (l : Fin 128) (r : Fin 1024) :
    stage 4#32 X (ix2 r l) = X (ix2 r l) + if 4 ≤ r.val % 64 then X (ix2 ⟨(r.val + 1024 - 4) % 1024, Nat.mod_lt _ (by omega)⟩ l) else 0 := by
  rw [← choose, ← (far ⟨r.val % 64, Nat.mod_lt _ (by omega)⟩).2.2.1, ← place_at r l]
  pointwise [stage]

theorem stage8 (X : FVec Ideal S1024x128 .f32) (l : Fin 128) (r : Fin 1024) :
    stage 8#32 X (ix2 r l) = X (ix2 r l) + if 8 ≤ r.val % 64 then X (ix2 ⟨(r.val + 1024 - 8) % 1024, Nat.mod_lt _ (by omega)⟩ l) else 0 := by
  rw [← choose, ← (far ⟨r.val % 64, Nat.mod_lt _ (by omega)⟩).2.2.2.1, ← place_at r l]
  pointwise [stage]

theorem stage16 (X : FVec Ideal S1024x128 .f32) (l : Fin 128) (r : Fin 1024) :
    stage 16#32 X (ix2 r l) = X (ix2 r l) + if 16 ≤ r.val % 64 then X (ix2 ⟨(r.val + 1024 - 16) % 1024, Nat.mod_lt _ (by omega)⟩ l) else 0 := by
  rw [← choose, ← (far ⟨r.val % 64, Nat.mod_lt _ (by omega)⟩).2.2.2.2.1, ← place_at r l]
  pointwise [stage]

theorem stage32 (X : FVec Ideal S1024x128 .f32) (l : Fin 128) (r : Fin 1024) :
    stage 32#32 X (ix2 r l) = X (ix2 r l) + if 32 ≤ r.val % 64 then X (ix2 ⟨(r.val + 1024 - 32) % 1024, Nat.mod_lt _ (by omega)⟩ l) else 0 := by
  rw [← choose, ← (far ⟨r.val % 64, Nat.mod_lt _ (by omega)⟩).2.2.2.2.2, ← place_at r l]
  pointwise [stage]

/-- The six steps sum a chunk's rows up to a row. -/
theorem running (g : FVec Ideal S1024x128 .f32) (l : Fin 128) (G : Nat → EReal) (hG : ∀ r : Fin 1024, g (ix2 r l) = G r.val) (r : Fin 1024) :
    stage 32#32 (stage 16#32 (stage 8#32 (stage 4#32 (stage 2#32 (stage 1#32 g))))) (ix2 r l) =
      ∑ j ∈ Finset.range (r.val % 64 + 1), G (r.val - j) := by
  have h0 : ∀ r : Fin 1024, g (ix2 r l) = ∑ j ∈ Finset.range (min 1 (r.val % 64 + 1)), G (r.val - j) := fun r => by
    rw [hG r, Nat.min_eq_left (by omega), Finset.sum_range_one, Nat.sub_zero]
  have h1 := step_sum 1#32 1 (by omega) _ l G (stage1 _ l) h0
  have h2 := step_sum 2#32 2 (by omega) _ l G (stage2 _ l) h1
  have h3 := step_sum 4#32 4 (by omega) _ l G (stage4 _ l) h2
  have h4 := step_sum 8#32 8 (by omega) _ l G (stage8 _ l) h3
  have h5 := step_sum 16#32 16 (by omega) _ l G (stage16 _ l) h4
  have h6 := step_sum 32#32 32 (by omega) _ l G (stage32 _ l) h5 r
  rw [h6, Nat.min_eq_right (by omega)]

theorem lane : ∀ l : Fin 128, IntOp.cmpi .slt (BitVec.ofNat 32 l.val) 16#32 = BitVec.ofBool (decide (l.val < 16)) := by decide +kernel

theorem lane_at (r : Fin 1024) (l : Fin 128) : k0_pay5 (ix2 r l) = BitVec.ofBool (decide (l.val < 16)) := by
  rw [← lane]
  pointwise [k0_pay5]

/-- The arguments. -/
def aH (n : Fin 16384) (k : Fin 4096) : EReal := (m ((c : Thread nD τ).loc main_arg0) : FVec Ideal S16384x4096 .bf16) (ix2 n k)
def aW (k : Fin 4096) (j : Fin 14368) : EReal := (m ((c : Thread nD τ).loc main_arg1) : FVec Ideal S4096x14368 .f32) (ix2 k j)
def aA (i : Fin 16) : EReal := (m ((c : Thread nD τ).loc main_arg2) : FVec Ideal S16 .f32) (ix1 i)
def aD (i : Fin 16) : EReal := (m ((c : Thread nD τ).loc main_arg3) : FVec Ideal S16 .f32) (ix1 i)

theorem zero_word : FloatOps.sitofp (F := Ideal) .f32 (0#32) = (0 : EReal) := by
  show ((((0#32 : BitVec 32).toInt : ℝ)) : EReal) = 0
  simp

theorem w_at (e : Fin 128) (k : Fin 4096) : V m c main_v2 (ix2 e k) = column (aW m c) e k := by
  unfold column aW
  simp only [V, hostOps0, hostOps0_1, hostOps0_2, hostOps0_3, hostOps0_4, hostOps0_5, hostOps0_6, List.flatten_cons,
    List.flatten_nil, List.append_nil, List.cons_append, List.nil_append]
  entry_read
  simp only [StableHlo.TRef.ofBuf, StableHlo.TRef.toBuf, cast_eq, cast_cast]
  pointwise
  rw [zero_word]

theorem a_at (e : Fin 128) : V m c main_v5 (ix2 0 e) = rate (aA m c) e := by
  unfold rate aA
  simp only [V, hostOps0, hostOps0_1, hostOps0_2, hostOps0_3, hostOps0_4, hostOps0_5, hostOps0_6, List.flatten_cons,
    List.flatten_nil, List.append_nil, List.cons_append, List.nil_append]
  entry_read
  simp only [StableHlo.TRef.ofBuf, StableHlo.TRef.toBuf, cast_eq, cast_cast]
  pointwise
  rw [zero_word]
  by_cases h : 16 ≤ e.val ∧ e.val < 32
  · rw [dif_pos h, dif_pos (by omega)]
  · rw [dif_neg h, dif_neg (by omega)]

theorem d_at (e : Fin 128) : V m c main_v7 (ix2 0 e) = offset (aD m c) e := by
  unfold offset aD
  simp only [V, hostOps0, hostOps0_1, hostOps0_2, hostOps0_3, hostOps0_4, hostOps0_5, hostOps0_6, List.flatten_cons,
    List.flatten_nil, List.append_nil, List.cons_append, List.nil_append]
  entry_read
  simp only [StableHlo.TRef.ofBuf, StableHlo.TRef.toBuf, cast_eq, cast_cast]
  pointwise
  rw [zero_word]
  by_cases h : 16 ≤ e.val ∧ e.val < 32
  · rw [dif_pos h, dif_pos (by omega)]
  · rw [dif_neg h, dif_neg (by omega)]

theorem lin_at (h : Vec Ideal S1024x4096 .bf16) (w : Vec Ideal S128x4096 .f32) (r : Fin 1024) (e : Fin 128) :
    k0_pay3 h w (ix2 r e) = Ideal.logistic (∑ k : Fin 4096, h (ix2 r k) * w (ix2 e k)) := by
  pointwise! [k0_pay3, k0_pay2]

theorem dec_at (h : Vec Ideal S1024x4096 .bf16) (w : Vec Ideal S128x4096 .f32) (d a : Vec Ideal S1x128 .f32) (r : Fin 1024) (e : Fin 128) :
    k0_pay4 h w d a (ix2 r e) = decay (a (ix2 0 e)) ((∑ k : Fin 4096, h (ix2 r k) * w (ix2 e k)) + d (ix2 0 e)) := by
  unfold decay
  pointwise [k0_pay4, k0_pay2]
  rfl

/-- What a point computes from its blocks. -/
def block (h : Vec Ideal S1024x4096 .bf16) (w : Vec Ideal S128x4096 .f32) (a d : Vec Ideal S1x128 .f32) : FVec Ideal S1024x128 .f32 :=
  k0_pay9 (k0_pay3 h w) (k0_pay4 h w d a) k0_pay5 (Scalar.select (Scalar.cmpi .eq 64#32 0#32) 1#32 64#32) k0_pay6 k0_pay7 k0_pay8

theorem block_at (h : Vec Ideal S1024x4096 .bf16) (w : Vec Ideal S128x4096 .f32) (a d : Vec Ideal S1x128 .f32) (l : Fin 128) (G : Nat → EReal)
    (hG : ∀ r : Fin 1024, decay (a (ix2 0 l)) ((∑ k : Fin 4096, h (ix2 r k) * w (ix2 l k)) + d (ix2 0 l)) = G r.val) (r : Fin 1024) :
    block h w a d (ix2 r l) = if l.val < 16 then Ideal.logistic (∑ k : Fin 4096, h (ix2 r k) * w (ix2 l k))
      else ∑ j ∈ Finset.range (r.val % 64 + 1), G (r.val - j) := by
  unfold block
  rw [steps]
  show Scalar.select (k0_pay5 (ix2 r l)) (k0_pay3 h w (ix2 r l)) _ = _
  rw [lane_at, choose, lin_at, running _ l G (fun r => (dec_at h w d a r l).trans (hG r)) r]

theorem pay_block (h : Vec Ideal S1024x4096 .bf16) (w : Vec Ideal S128x4096 .f32) (a d : Vec Ideal S1x128 .f32) : k0_pay10 h w a d = block h w a d := by
  have z : (![0, 0] : Fin 2 → Nat) = fun _ => 0 := by
    funext i
    match i with | ⟨0, _⟩ => rfl | ⟨1, _⟩ => rfl
  have h0 : View.ld h r0_0 = h := View.ld_unit_zero z _ h
  have h1 : View.ld w r0_1 = w := View.ld_unit_zero z _ w
  have h2 : View.ld d r0_2 = d := View.ld_unit_zero z _ d
  have h3 : View.ld a r0_2 = a := View.ld_unit_zero z _ a
  unfold k0_pay10 block
  rw [h0, h1, h2, h3]

theorem points (t : Fin cfg0.N) : t.val < 16 := by
  have : cfg0.N = 16 := N_0
  omega

theorem idx : ∀ t : Fin cfg0.N, win0_0.index t = ![t.val, 0] ∧ win0_1.index t = ![0, 0] ∧ win0_2.index t = ![0, 0] ∧ win0_3.index t = ![0, 0] ∧
    win0_4.index t = ![t.val, 0] ∧ win0_5.index t = ![0, t.val] :=
  (by decide +kernel : ∀ t : Fin grid0.N, _)

theorem rows_at (n : Fin 16384) (k : Fin 4096) : V m c main_arg0 (ix2 n k) = aH m c n k := by
  rw [V_main_arg0]
  rfl

theorem hblock (t : Fin cfg0.N) (r : Fin 1024) (k : Fin 4096) (n : Fin 16384) (hn : n.val = t.val * 1024 + r.val) :
    (iblk m c 0 t : Vec Ideal S1024x4096 .bf16) (ix2 r k) = aH m c n k := by
  rw [← rows_at m c]
  blk_ext [iblk, idx t]

theorem wblock (t : Fin cfg0.N) (e : Fin 128) (k : Fin 4096) :
    (iblk m c 1 t : Vec Ideal S128x4096 .f32) (ix2 e k) = column (aW m c) e k := by
  rw [← w_at m c]
  blk_ext [iblk, idx t]

theorem ablock (t : Fin cfg0.N) (e : Fin 128) : (iblk m c 2 t : Vec Ideal S1x128 .f32) (ix2 0 e) = rate (aA m c) e := by
  rw [← a_at m c]
  blk_ext [iblk, idx t]

theorem dblock (t : Fin cfg0.N) (e : Fin 128) : (iblk m c 3 t : Vec Ideal S1x128 .f32) (ix2 0 e) = offset (aD m c) e := by
  rw [← d_at m c]
  blk_ext [iblk, idx t]

theorem point (t : Fin cfg0.N) (r : Fin 1024) (e : Fin 128) (n : Fin 16384) (hn : n.val = t.val * 1024 + r.val) :
    block (iblk m c 0 t) (iblk m c 1 t) (iblk m c 2 t) (iblk m c 3 t) (ix2 r e) = gateAt (aH m c) (aW m c) (aA m c) (aD m c) n e := by
  have ht := points t
  rw [block_at _ _ _ _ e (fun i => decayAt (aH m c) (aW m c) (aA m c) (aD m c) (t.val * 1024 + i) e) (fun r => ?_) r]
  · unfold gateAt
    have e1 : n.val % 64 = r.val % 64 := by omega
    rw [e1]
    refine congrArg₂ (fun a b => if e.val < 16 then a else b) (congrArg Ideal.logistic ?_) (Finset.sum_congr rfl fun j hj => ?_)
    · refine Finset.sum_congr rfl fun k _ => ?_
      rw [hblock m c t r k n hn, wblock m c t e k]
    · have hj' := Finset.mem_range.1 hj
      exact congrArg (fun i => decayAt (aH m c) (aW m c) (aA m c) (aD m c) i e) (by omega)
  · unfold decayAt
    rw [ablock m c t e, dblock m c t e]
    refine congrArg (fun s => decay (rate (aA m c) e) (s + offset (aD m c) e)) (Finset.sum_congr rfl fun k _ => ?_)
    rw [hblock m c t r k ⟨(t.val * 1024 + r.val) % 16384, Nat.mod_lt _ (by omega)⟩ (Nat.mod_eq_of_lt (by omega)), wblock m c t e k]

/-- The first result: the gates. -/
theorem final : (dats m 0 c).arrAt 4 cfg0.N = fun i : S16384x128.Idx => gateAt (aH m c) (aW m c) (aA m c) (aD m c) (i 0) (i 1) := by
  refine (dats m 0 c).arrAt_eq_of_covers 4 _ (by decide +kernel) fun t _ y => ?_
  blk_simp
  rw [after0_4]
  frame_out
  rw [pay_block]
  obtain ⟨r, e, rfl⟩ : ∃ (r : Fin 1024) (e : Fin 128), y = ix2 r e := ⟨y 0, y 1, by funext a; match a with | ⟨0, _⟩ => rfl | ⟨1, _⟩ => rfl⟩
  refine (point m c t r e _ ?_).trans (congrArg (gateAt _ _ _ _ _) ?_)
  · blk_simp [idx t]
  · refine Fin.ext ?_
    blk_simp [idx t]

theorem turned_at (X : FVec Ideal S1024x128 .f32) (e : Fin 16) (r : Fin 1024) : k0_pay1 X (ix2 e r) = X (ix2 r ⟨16 + e.val, by omega⟩) := by
  pointwise [k0_pay1]

/-- The second: the summed decays, transposed. -/
theorem final_turned : (dats m 0 c).arrAt 5 cfg0.N = fun i : S16x16384.Idx => gateAt (aH m c) (aW m c) (aA m c) (aD m c) (i 1) ⟨16 + (i 0).val, by have : (i 0).val < 16 := (i 0).isLt; omega⟩ := by
  refine (dats m 0 c).arrAt_eq_of_covers 5 _ (by decide +kernel) fun t _ y => ?_
  blk_simp
  rw [after0_5]
  frame_out
  rw [pay_block]
  obtain ⟨e, r, rfl⟩ : ∃ (e : Fin 16) (r : Fin 1024), y = ix2 e r := ⟨y 0, y 1, by funext a; match a with | ⟨0, _⟩ => rfl | ⟨1, _⟩ => rfl⟩
  rw [turned_at]
  refine (point m c t r ⟨16 + e.val, by omega⟩ _ ?_).trans (congrArg (gateAt _ _ _ _ _) ?_)
  · blk_simp [idx t]
  · refine Fin.ext ?_
    blk_simp [idx t]

end Cert.Gate
end
-- ==== Proof.lean ====
/- The claims, of the band attention, the first norm, the two projections, the mixing half that joins them, and the gates: the kernel and
   its two ideal programs run and leave their arguments; the kernel's ideal program is the kernel, with the attention up to the
   named mask; and it computes the reference, with the attention where the attention's weights are finite. -/
module

public import proofs.«01_k».proof.Defs
public import proofs.«01_k».proof.Proof.Gen.Kernel
public import proofs.«01_k».proof.Proof.Gen.Kernel.Frame
public import proofs.«01_k».proof.Proof.Blocks
public import proofs.«01_k».proof.Proof.Gen.Norm
public import proofs.«01_k».proof.Proof.Gen.Norm.Frame
public import proofs.«01_k».proof.Proof.Gen.InProj
public import proofs.«01_k».proof.Proof.Gen.InProj.Frame
public import proofs.«01_k».proof.Proof.Gen.OutProj
public import proofs.«01_k».proof.Proof.Gen.OutProj.Frame
public import proofs.«01_k».proof.Proof.Norm
public import proofs.«01_k».proof.Proof.InProj
public import proofs.«01_k».proof.Proof.OutProj
public import proofs.«01_k».proof.Proof.Gen.Mixer
public import proofs.«01_k».proof.Proof.Gen.Mixer.Frame
public import proofs.«01_k».proof.Proof.MixFinal
public import proofs.«01_k».proof.Proof.Gen.Gates
public import proofs.«01_k».proof.Proof.Gen.Gates.Frame
public import proofs.«01_k».proof.Proof.Gates
public import Idealize.ShloMosaic.Adequacy
public import Idealize.ShloMosaic.Init

@[expose] public section

set_option maxRecDepth 16384

noncomputable section

namespace Cert.Proof

open Idealize.ShloMosaic Idealize.SL.Sem
open Cert.Band Cert.BandRef

instance preFacts : Cert.Pre_finite_weights.Facts := ⟨by decide, by decide⟩

instance attentionFacts : Cert.Pre_finite_attention.Facts := ⟨by decide, by decide⟩

theorem real_of_word (x : EReal) (h : FloatOps.cmpf (F := Ideal) (φ := .f32) .olt (max x (-x)) (Ideal.ofBits .f32 0x7F800000#32) = 1#1) :
    IsReal x := by
  rw [ofBits_inf] at h
  refine isReal_of_abs_lt_top ?_
  by_contra hn
  have h' : BitVec.ofBool (decide (max x (-x) < ⊤)) = 1#1 := h
  rw [decide_eq_false hn] at h'
  exact absurd h' (by decide)

/-- The reference's result is the kernel's, where the arguments agree and the weights are finite. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (hpre : Cert.Pre_KernelIdeal_finite_weights m) :
    ReferenceIdeal.Value.res_main_v109 m' c = (KernelIdeal.Gen.dats m 0 c).arrAt 8 KernelIdeal.cfg0.N := by
  obtain ⟨p1, p2, p3⟩ := hpre c
  rw [final m c (fun i => real_of_word _ (congrFun p1 i)) (fun d => real_of_word _ (congrFun p2 d)) (fun d => real_of_word _ (congrFun p3 d))]
  funext i
  obtain ⟨n, j, rfl⟩ : ∃ (n : Fin 16384) (j : Fin 2048), i = ix2 n j := ⟨i 0, i 1, by funext a; match a with | ⟨0, _⟩ => rfl | ⟨1, _⟩ => rfl⟩
  rw [ref_at m' c n j _ _ _ _ h0 h1 h2 h3]
  show _ = bandOut m c n j
  unfold bandOut bandAt bandScores bandVals
  have e1 : (⟨j.val / 256 * 2 + j.val / 128 % 2, by omega⟩ : Fin 16) = ⟨j.val / 128, by omega⟩ := Fin.ext (by dsimp only; omega)
  have e2 : (⟨n.val % 8192 / 512 * 8 + n.val % 512 / 64, by omega⟩ : Fin 128) = ⟨n.val % 8192 / 64, by omega⟩ := Fin.ext (by dsimp only; omega)
  have e3 : (⟨n.val % 512 % 64, by omega⟩ : Fin 64) = ⟨n.val % 8192 % 64, by omega⟩ := Fin.ext (by dsimp only; omega)
  dsimp only
  rw [e1, e2, e3]
  rfl

theorem algebraic : Cert.algebraic_KernelIdeal_ReferenceIdeal_pre_finite_weights := by
  pair_intro
  · run_from Cert.KernelIdeal.Value.run_blocks m g
  · run_from Cert.ReferenceIdeal.Value.run m' g'
    exact result_eq m m' c (hagree c).1 (hagree c).2.1 (hagree c).2.2.1 (hagree c).2.2.2 hpre

theorem algebraic_norm : Cert.algebraic_NormIdeal_NormReferenceIdeal := by
  pair_intro
  · run_from Cert.NormIdeal.Value.run_blocks m g
  · run_from Cert.NormReferenceIdeal.Value.run m' g'
    rw [Cert.FirstNorm.final m c]
    funext i
    obtain ⟨n, j, rfl⟩ : ∃ (n : Fin 16384) (j : Fin 4096), i = ix2 n j := ⟨i 0, i 1, by funext a; match a with | ⟨0, _⟩ => rfl | ⟨1, _⟩ => rfl⟩
    exact Cert.FirstNorm.Ref.at_ _ _ n j

theorem algebraic_inProj : Cert.algebraic_InProjIdeal_InProjReferenceIdeal := by
  pair_intro
  · run_from Cert.InProjIdeal.Value.run_blocks m g
  · run_from Cert.InProjReferenceIdeal.Value.run m' g'
    rw [Cert.InP.final m c]
    funext i
    obtain ⟨b, n, d, rfl⟩ : ∃ (b : Fin 112) (n : Fin 16384) (d : Fin 128), i = ix3 b n d :=
      ⟨i 0, i 1, i 2, by funext a; match a with | ⟨0, _⟩ => rfl | ⟨1, _⟩ => rfl | ⟨2, _⟩ => rfl⟩
    exact Cert.InP.Ref.at_ _ _ b n d

theorem algebraic_outProj : Cert.algebraic_OutProjIdeal_OutProjReferenceIdeal := by
  pair_intro
  · run_from Cert.OutProjIdeal.Value.run_blocks m g
  · run_from Cert.OutProjReferenceIdeal.Value.run m' g'
    rw [Cert.OutP.final m c]
    funext i
    obtain ⟨n, j, rfl⟩ : ∃ (n : Fin 16384) (j : Fin 4096), i = ix2 n j := ⟨i 0, i 1, by funext a; match a with | ⟨0, _⟩ => rfl | ⟨1, _⟩ => rfl⟩
    exact Cert.OutP.Ref.at_ _ _ _ _ n j

/-- The mixing half's reference is the kernel's result, where the arguments agree and the attention's weights are finite. -/
theorem half_eq (m : (ℓ : Loc MixerIdeal.nD MixerIdeal.τ MixerIdeal.sig) → Buf (Elt Ideal) ℓ) (ρ : Dev MixerIdeal.nD → PrngReg) (c : Dev MixerIdeal.nD)
    (hpre : Cert.Pre_MixerIdeal_finite_attention m) :
    Cert.MixRef.half (Cert.Mix.aX m c) (Cert.Mix.aN m c) (Cert.Mix.aW m c) (Cert.Mix.aQ m c) (Cert.Mix.aK m c) (Cert.Mix.aB m c) (Cert.Mix.aY m c)
      (Cert.Mix.aO m c) = (MixerIdeal.Gen.dat3 (MixerIdeal.Gen.V12 m ρ) c).arrAt 5 MixerIdeal.cfg3.N := by
  obtain ⟨p1, p2, p3⟩ := hpre c
  exact (Cert.Mix.result m ρ c (fun i => real_of_word _ (congrFun p3 i)) (fun d => real_of_word _ (congrFun p1 d))
    (fun d => real_of_word _ (congrFun p2 d))).symm

theorem algebraic_mixer : Cert.algebraic_MixerIdeal_MixerReferenceIdeal_pre_finite_attention := by
  pair_intro
  · run_from Cert.Mix.run m g
  · run_from Cert.MixerReferenceIdeal.Value.run m' g'
    obtain ⟨h0, h1, h2, h3, h4, h5, h6, h7⟩ := hagree c
    rw [Cert.MixRef.res_stages m' c, h0, h1, h2, h3, h4, h5, h6, h7]
    exact half_eq m g c hpre

theorem algebraic_gates : Cert.algebraic_GatesIdeal_GatesReferenceIdeal := by
  pair_intro
  · run_from Cert.GatesIdeal.Value.run_blocks m g
  · run_from Cert.GatesReferenceIdeal.Value.run m' g'
    · refine Eq.trans ?_ (Cert.Gate.final m c).symm
      funext i
      obtain ⟨n, e, rfl⟩ : ∃ (n : Fin 16384) (e : Fin 128), i = ix2 n e := ⟨i 0, i 1, by funext a; match a with | ⟨0, _⟩ => rfl | ⟨1, _⟩ => rfl⟩
      refine (Cert.Gate.Ref.at_ _ _ _ _ n e).trans ?_
      exact congrArg (fun D : FVec Ideal GatesIdeal.S16 .f32 => Cert.Gate.gateAt (Cert.Gate.aH m c) (Cert.Gate.aW m c) (Cert.Gate.aA m c)
        (fun i => D (ix1 i)) n e) (hagree c).2.2.2
    · refine Eq.trans ?_ (Cert.Gate.final_turned m c).symm
      funext i
      obtain ⟨e, n, rfl⟩ : ∃ (e : Fin 16) (n : Fin 16384), i = ix2 e n := ⟨i 0, i 1, by funext a; match a with | ⟨0, _⟩ => rfl | ⟨1, _⟩ => rfl⟩
      exact Cert.Gate.Ref.turned _ _ _ _ n e

theorem frame_ReferenceIdeal : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

theorem frame_NormReference : Cert.quiescent_NormReferenceIdeal := by
  intro m g _
  exact (θ_run Cert.NormReferenceIdeal.defs _ _).mono (fun r h => ⟨fun c => (h c).2, sem_eq_zero_of_no_sems (by decide) r.2⟩)
    (Cert.NormReferenceIdeal.Value.run m g)

theorem frame_InProjReference : Cert.quiescent_InProjReferenceIdeal := by
  intro m g _
  exact (θ_run Cert.InProjReferenceIdeal.defs _ _).mono (fun r h => ⟨fun c => (h c).2, sem_eq_zero_of_no_sems (by decide) r.2⟩)
    (Cert.InProjReferenceIdeal.Value.run m g)

theorem frame_OutProjReference : Cert.quiescent_OutProjReferenceIdeal := by
  intro m g _
  exact (θ_run Cert.OutProjReferenceIdeal.defs _ _).mono (fun r h => ⟨fun c => (h c).2, sem_eq_zero_of_no_sems (by decide) r.2⟩)
    (Cert.OutProjReferenceIdeal.Value.run m g)

theorem frame_MixerReference : Cert.quiescent_MixerReferenceIdeal := by
  intro m g _
  exact (θ_run Cert.MixerReferenceIdeal.defs _ _).mono (fun r h => ⟨fun c => (h c).2, sem_eq_zero_of_no_sems (by decide) r.2⟩)
    (Cert.MixerReferenceIdeal.Value.run m g)

theorem frame_GatesReference : Cert.quiescent_GatesReferenceIdeal := by
  intro m g _
  exact (θ_run Cert.GatesReferenceIdeal.defs _ _).mono (fun r h => ⟨fun c => (h c).2.2, sem_eq_zero_of_no_sems (by decide) r.2⟩)
    (Cert.GatesReferenceIdeal.Value.run m g)

theorem claim : Cert.Claim :=
  ⟨Cert.Kernel.Gen.facts, Cert.KernelIdeal.Gen.facts, Cert.ReferenceIdeal.Gen.facts,
    Cert.Norm.Gen.facts, Cert.NormIdeal.Gen.facts, Cert.NormReferenceIdeal.Gen.facts,
    Cert.InProj.Gen.facts, Cert.InProjIdeal.Gen.facts, Cert.InProjReferenceIdeal.Gen.facts,
    Cert.OutProj.Gen.facts, Cert.OutProjIdeal.Gen.facts, Cert.OutProjReferenceIdeal.Gen.facts,
    Cert.Mixer.Gen.facts, Cert.MixerIdeal.Gen.facts, Cert.MixerReferenceIdeal.Gen.facts,
    Cert.Gates.Gen.facts, Cert.GatesIdeal.Gen.facts, Cert.GatesReferenceIdeal.Gen.facts, preFacts, attentionFacts,
    fun m g _ => Cert.Kernel.Gen.frame m g, fun m g _ => Cert.KernelIdeal.Gen.frame m g, fun m g _ => Cert.KernelIdeal.Gen.frame m g,
    frame_ReferenceIdeal, fun m g _ => frame_ReferenceIdeal m g trivial,
    fun m g _ => Cert.Norm.Gen.frame m g, fun m g _ => Cert.NormIdeal.Gen.frame m g, frame_NormReference,
    fun m g _ => Cert.InProj.Gen.frame m g, fun m g _ => Cert.InProjIdeal.Gen.frame m g, frame_InProjReference,
    fun m g _ => Cert.OutProj.Gen.frame m g, fun m g _ => Cert.OutProjIdeal.Gen.frame m g, frame_OutProjReference,
    fun m g _ => Cert.Mixer.Gen.frame m g, fun m g _ => Cert.MixerIdeal.Gen.frame m g, fun m g _ => Cert.MixerIdeal.Gen.frame m g,
    frame_MixerReference, fun m g _ => frame_MixerReference m g trivial,
    fun m g _ => Cert.Gates.Gen.frame m g, fun m g _ => Cert.GatesIdeal.Gen.frame m g, frame_GatesReference,
    IdealRules.named_const.statement Cert.KernelIdeal.κ "mask" .f32 0xF149F2CA#32 ⊥ rfl, algebraic,
    trivial, algebraic_norm, trivial, algebraic_inProj, trivial, algebraic_outProj,
    IdealRules.named_const.statement Cert.MixerIdeal.κ "mask" .f32 0xF149F2CA#32 ⊥ rfl, algebraic_mixer,
    trivial, algebraic_gates⟩

end Cert.Proof

end
